-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_v8) = v1 c
          ∧ r.2.mem ((c.tc : Thread Cert.ReferenceIdeal.nD Cert.ReferenceIdeal.τ).loc Cert.ReferenceIdeal.main_v23) = v2 c
          ∧ r.2.mem ((c.tc : Thread Cert.ReferenceIdeal.nD Cert.ReferenceIdeal.τ).loc Cert.ReferenceIdeal.main_v16) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x1x16x128 : Shape := ⟨4, ![4, 1, 16, 128]⟩
abbrev S4x1x2x128 : Shape := ⟨4, ![4, 1, 2, 128]⟩
abbrev S4x32768x2x128 : Shape := ⟨4, ![4, 32768, 2, 128]⟩
abbrev S4x2x128 : Shape := ⟨3, ![4, 2, 128]⟩
abbrev S4x32768x2 : Shape := ⟨3, ![4, 32768, 2]⟩
abbrev S4 : Shape := ⟨1, ![4]⟩
abbrev S4x2x32768x128 : Shape := ⟨4, ![4, 2, 32768, 128]⟩
abbrev S4x2x32768 : Shape := ⟨3, ![4, 2, 32768]⟩
abbrev S4x1x2 : Shape := ⟨3, ![4, 1, 2]⟩
abbrev S1x1x16x128 : Shape := ⟨4, ![1, 1, 16, 128]⟩
abbrev S1x1x2x128 : Shape := ⟨4, ![1, 1, 2, 128]⟩
abbrev S1x2x4096x128 : Shape := ⟨4, ![1, 2, 4096, 128]⟩
abbrev S1 : Shape := ⟨1, ![1]⟩
abbrev S1x2x128 : Shape := ⟨3, ![1, 2, 128]⟩
abbrev S1x2x4096 : Shape := ⟨3, ![1, 2, 4096]⟩
abbrev S1x1x2 : Shape := ⟨3, ![1, 1, 2]⟩
abbrev S16x128 : Shape := ⟨2, ![16, 128]⟩
abbrev S8x4096 : Shape := ⟨2, ![8, 4096]⟩
abbrev S1x1x8x128 : Shape := ⟨4, ![1, 1, 8, 128]⟩
abbrev S8x128 : Shape := ⟨2, ![8, 128]⟩
abbrev S1x1x128 : Shape := ⟨3, ![1, 1, 128]⟩
abbrev S1x128 : Shape := ⟨2, ![1, 128]⟩
abbrev S1x1x4096x128 : Shape := ⟨4, ![1, 1, 4096, 128]⟩
abbrev S4096x128 : Shape := ⟨2, ![4096, 128]⟩
abbrev S8 : Shape := ⟨1, ![8]⟩
abbrev S8x1 : Shape := ⟨2, ![8, 1]⟩
abbrev S1x1x4096 : Shape := ⟨3, ![1, 1, 4096]⟩
abbrev S1x4096 : Shape := ⟨2, ![1, 4096]⟩
abbrev S1x1x1x128 : Shape := ⟨4, ![1, 1, 1, 128]⟩
abbrev S2x128 : Shape := ⟨2, ![2, 128]⟩
abbrev S2 : Shape := ⟨1, ![2]⟩
abbrev S2x1 : Shape := ⟨2, ![2, 1]⟩
abbrev S1x1 : Shape := ⟨2, ![1, 1]⟩
abbrev S1x1x1 : Shape := ⟨3, ![1, 1, 1]⟩

abbrev nBuf : Space → Nat
  | .hbm => 15
  | .vmem => 27
  | .smem => 1
  | _ => 0

abbrev bufTy : (tb : Table) → Fin (tcTables nBuf tb) → BufTy
  | .hbm, ⟨0, _⟩ => ⟨S4x1x16x128, .bf16⟩
  | .hbm, ⟨1, _⟩ => ⟨S4x1x2x128, .bf16⟩
  | .hbm, ⟨2, _⟩ => ⟨S4x1x2x128, .bf16⟩
  | .hbm, ⟨3, _⟩ => ⟨S4x32768x2x128, .i8⟩
  | .hbm, ⟨4, _⟩ => ⟨S4x2x128, .f32⟩
  | .hbm, ⟨5, _⟩ => ⟨S4x2x128, .f32⟩
  | .hbm, ⟨6, _⟩ => ⟨S4x32768x2x128, .i8⟩
  | .hbm, ⟨7, _⟩ => ⟨S4x32768x2, .f32⟩
  | .hbm, ⟨8, _⟩ => ⟨S4x2x32768x128, .i8⟩
  | .hbm, ⟨9, _⟩ => ⟨S4x2x32768x128, .i8⟩
  | .hbm, ⟨10, _⟩ => ⟨S4x2x32768, .f32⟩
  | .hbm, ⟨11, _⟩ => ⟨S4x1x16x128, .bf16⟩
  | .hbm, ⟨12, _⟩ => ⟨S4x1x2x128, .i8⟩
  | .hbm, ⟨13, _⟩ => ⟨S4x1x2x128, .i8⟩
  | .hbm, ⟨14, _⟩ => ⟨S4x1x2, .f32⟩
  | .local _ .vmem, ⟨0, _⟩ => ⟨S1x1x16x128, .bf16⟩
  | .local _ .vmem, ⟨1, _⟩ => ⟨S1x1x16x128, .bf16⟩
  | .local _ .vmem, ⟨2, _⟩ => ⟨S1x1x2x128, .bf16⟩
  | .local _ .vmem, ⟨3, _⟩ => ⟨S1x1x2x128, .bf16⟩
  | .local _ .vmem, ⟨4, _⟩ => ⟨S1x1x2x128, .bf16⟩
  | .local _ .vmem, ⟨5, _⟩ => ⟨S1x1x2x128, .bf16⟩
  | .local _ .vmem, ⟨6, _⟩ => ⟨S1x2x4096x128, .i8⟩
  | .local _ .vmem, ⟨7, _⟩ => ⟨S1x2x4096x128, .i8⟩
  | .local _ .vmem, ⟨8, _⟩ => ⟨S1x2x128, .f32⟩
  | .local _ .vmem, ⟨9, _⟩ => ⟨S1x2x128, .f32⟩
  | .local _ .vmem, ⟨10, _⟩ => ⟨S1x2x128, .f32⟩
  | .local _ .vmem, ⟨11, _⟩ => ⟨S1x2x128, .f32⟩
  | .local _ .vmem, ⟨12, _⟩ => ⟨S1x2x4096x128, .i8⟩
  | .local _ .vmem, ⟨13, _⟩ => ⟨S1x2x4096x128, .i8⟩
  | .local _ .vmem, ⟨14, _⟩ => ⟨S1x2x4096, .f32⟩
  | .local _ .vmem, ⟨15, _⟩ => ⟨S1x2x4096, .f32⟩
  | .local _ .vmem, ⟨16, _⟩ => ⟨S1x1x16x128, .bf16⟩
  | .local _ .vmem, ⟨17, _⟩ => ⟨S1x1x16x128, .bf16⟩
  | .local _ .vmem, ⟨18, _⟩ => ⟨S1x1x2x128, .i8⟩
  | .local _ .vmem, ⟨19, _⟩ => ⟨S1x1x2x128, .i8⟩
  | .local _ .vmem, ⟨20, _⟩ => ⟨S1x1x2x128, .i8⟩
  | .local _ .vmem, ⟨21, _⟩ => ⟨S1x1x2x128, .i8⟩
  | .local _ .vmem, ⟨22, _⟩ => ⟨S1x1x2, .f32⟩
  | .local _ .vmem, ⟨23, _⟩ => ⟨S1x1x2, .f32⟩
  | .local _ .vmem, ⟨24, _⟩ => ⟨S16x128, .f32⟩
  | .local _ .vmem, ⟨25, _⟩ => ⟨S16x128, .f32⟩
  | .local _ .vmem, ⟨26, _⟩ => ⟨S16x128, .f32⟩
  | .local _ .smem, ⟨0, _⟩ => ⟨S4, .i32⟩
  | _, _ => ⟨S4x1x16x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v3_3 : Ref sig .tc := ⟨.hbm, 14, rfl⟩
abbrev main_arg8 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![4, 8], ![false, false]⟩

abbrev pre0 : Pipeline.Prefetch sig := ⟨1, ![main_arg8.idx], fun | 0 => main_arg8.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond3 (i : grid0.Coords) : BitVec 1 :=
  let arg1 : BitVec 32 := BitVec.ofNat 32 (i 1).val
  let c7_i32 : BitVec 32 := 7#32
  let v9 : BitVec 1 := Scalar.cmpi .eq arg1 c7_i32
  let v10 : BitVec 32 := Scalar.extui v9
  let c0_i32_2 : BitVec 32 := 0#32
  let v11 : BitVec 1 := Scalar.cmpi .ne v10 c0_i32_2
  v11

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (k0_off1_inb : ∀ i : grid0.Coords, ∀ a, (k0_off1 i) a + S1.size a ≤ S4.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S4) ![v0.toNat] S1.size (k0_off1_inb i)) numel1_S1
  let c1_i32 : BitVec 32 := 1#32
  let v2 : BitVec 32 := Scalar.subi v1 c1_i32
  let c0_i32 : BitVec 32 := 0#32
  let v3 : BitVec 32 := Scalar.maxsi v2 c0_i32
  let c4096_i32 : BitVec 32 := 4096#32
  let v4 : BitVec 32 := Scalar.divsi v3 c4096_i32
  let c0_i32_0 : BitVec 32 := 0#32
  let v5 : BitVec 1 := Scalar.cmpi .sgt v3 c0_i32_0
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c4096_i32 c0_i32_2
  let v11 : BitVec 32 := Scalar.extui v10
  let c0_i32_3 : BitVec 32 := 0#32
  let v12 : BitVec 1 := Scalar.cmpi .slt c4096_i32 c0_i32_3
  let v13 : BitVec 32 := Scalar.extui v12
  let v14 : BitVec 32 := Scalar.subi v11 v13
  let v15 : BitVec 1 := Scalar.cmpi .ne v9 v14
  let v16 : BitVec 32 := Scalar.remsi v3 c4096_i32
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let v21 : BitVec 32 := Scalar.minsi arg1 v20
  let c0_i32_6 : BitVec 32 := 0#32
  let c0_i32_7 : BitVec 32 := 0#32
  let c0_i32_8 : BitVec 32 := 0#32
  ![arg0.toNat, c0_i32_6.toNat, v21.toNat, c0_i32_7.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (k0_off1_inb : ∀ i : grid0.Coords, ∀ a, (k0_off1 i) a + S1.size a ≤ S4.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S4) ![v0.toNat] S1.size (k0_off1_inb i)) numel1_S1
  let c1_i32 : BitVec 32 := 1#32
  let v2 : BitVec 32 := Scalar.subi v1 c1_i32
  let c0_i32 : BitVec 32 := 0#32
  let v3 : BitVec 32 := Scalar.maxsi v2 c0_i32
  let c4096_i32 : BitVec 32 := 4096#32
  let v4 : BitVec 32 := Scalar.divsi v3 c4096_i32
  let c0_i32_0 : BitVec 32 := 0#32
  let v5 : BitVec 1 := Scalar.cmpi .sgt v3 c0_i32_0
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c4096_i32 c0_i32_2
  let v11 : BitVec 32 := Scalar.extui v10
  let c0_i32_3 : BitVec 32 := 0#32
  let v12 : BitVec 1 := Scalar.cmpi .slt c4096_i32 c0_i32_3
  let v13 : BitVec 32 := Scalar.extui v12
  let v14 : BitVec 32 := Scalar.subi v11 v13
  let v15 : BitVec 1 := Scalar.cmpi .ne v9 v14
  let v16 : BitVec 32 := Scalar.remsi v3 c4096_i32
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let v21 : BitVec 32 := Scalar.minsi arg1 v20
  let c0_i32_6 : BitVec 32 := 0#32
  let c0_i32_7 : BitVec 32 := 0#32
  let c0_i32_8 : BitVec 32 := 0#32
  ![arg0.toNat, c0_i32_6.toNat, v21.toNat, c0_i32_7.toNat]

def cc0_transform_7 (k0_off1_inb : ∀ i : grid0.Coords, ∀ a, (k0_off1 i) a + S1.size a ≤ S4.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S4) ![v0.toNat] S1.size (k0_off1_inb i)) numel1_S1
  let c1_i32 : BitVec 32 := 1#32
  let v2 : BitVec 32 := Scalar.subi v1 c1_i32
  let c0_i32 : BitVec 32 := 0#32
  let v3 : BitVec 32 := Scalar.maxsi v2 c0_i32
  let c4096_i32 : BitVec 32 := 4096#32
  let v4 : BitVec 32 := Scalar.divsi v3 c4096_i32
  let c0_i32_0 : BitVec 32 := 0#32
  let v5 : BitVec 1 := Scalar.cmpi .sgt v3 c0_i32_0
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c4096_i32 c0_i32_2
  let v11 : BitVec 32 := Scalar.extui v10
  let c0_i32_3 : BitVec 32 := 0#32
  let v12 : BitVec 1 := Scalar.cmpi .slt c4096_i32 c0_i32_3
  let v13 : BitVec 32 := Scalar.extui v12
  let v14 : BitVec 32 := Scalar.subi v11 v13
  let v15 : BitVec 1 := Scalar.cmpi .ne v9 v14
  let v16 : BitVec 32 := Scalar.remsi v3 c4096_i32
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let v21 : BitVec 32 := Scalar.minsi arg1 v20
  let c0_i32_6 : BitVec 32 := 0#32
  let c0_i32_7 : BitVec 32 := 0#32
  ![arg0.toNat, c0_i32_6.toNat, v21.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x16x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2x4096x128 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x2x4096x128 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x16x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x2x128 .i8 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x2x128 .i8 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1x2 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== ReferenceIdeal.lean ====
abbrev S4x1x16x128 : Shape := ⟨4, ![4, 1, 16, 128]⟩
abbrev S4x1x2x128 : Shape := ⟨4, ![4, 1, 2, 128]⟩
abbrev S4x32768x2x128 : Shape := ⟨4, ![4, 32768, 2, 128]⟩
abbrev S4x2x128 : Shape := ⟨3, ![4, 2, 128]⟩
abbrev S4x32768x2 : Shape := ⟨3, ![4, 32768, 2]⟩
abbrev S4 : Shape := ⟨1, ![4]⟩
abbrev S_ : Shape := ⟨0, ![]⟩
abbrev S4x1x2 : Shape := ⟨3, ![4, 1, 2]⟩
abbrev S4x1x2x1 : Shape := ⟨4, ![4, 1, 2, 1]⟩
abbrev S4x1x2x8x128 : Shape := ⟨5, ![4, 1, 2, 8, 128]⟩
abbrev S4x2x32768x1x8 : Shape := ⟨5, ![4, 2, 32768, 1, 8]⟩
abbrev S4x2x8x1x32768 : Shape := ⟨5, ![4, 2, 8, 1, 32768]⟩
abbrev S4x2x1x1x8 : Shape := ⟨5, ![4, 2, 1, 1, 8]⟩
abbrev S4x2x8x1x1 : Shape := ⟨5, ![4, 2, 8, 1, 1]⟩
abbrev S32768 : Shape := ⟨1, ![32768]⟩
abbrev S1x32768 : Shape := ⟨2, ![1, 32768]⟩
abbrev S4x1 : Shape := ⟨2, ![4, 1]⟩
abbrev S4x32768 : Shape := ⟨2, ![4, 32768]⟩
abbrev S4x1x1x1x32768 : Shape := ⟨5, ![4, 1, 1, 1, 32768]⟩
abbrev S1 : Shape := ⟨1, ![1]⟩
abbrev S1x1 : Shape := ⟨2, ![1, 1]⟩
abbrev S4x2x8x1 : Shape := ⟨4, ![4, 2, 8, 1]⟩
abbrev S4x2x32768 : Shape := ⟨3, ![4, 2, 32768]⟩
abbrev S4x2x1x1x32768 : Shape := ⟨5, ![4, 2, 1, 1, 32768]⟩
abbrev S4x2x128x8x1 : Shape := ⟨5, ![4, 2, 128, 8, 1]⟩

abbrev nBuf : Space → Nat
  | .hbm => 138
  | .vmem => 0
  | .smem => 0
  | _ => 0

abbrev hbmTy0_0 (i : Nat) : BufTy := match i % 128 with
  | 0 => ⟨S4x1x16x128, .bf16⟩
  | 1 => ⟨S4x1x2x128, .bf16⟩
  | 2 => ⟨S4x1x2x128, .bf16⟩
  | 3 => ⟨S4x32768x2x128, .i8⟩
  | 4 => ⟨S4x2x128, .f32⟩
  | 5 => ⟨S4x2x128, .f32⟩
  | 6 => ⟨S4x32768x2x128, .i8⟩
  | 7 => ⟨S4x32768x2, .f32⟩
  | 8 => ⟨S4, .i32⟩
  | 9 => ⟨S4x1x2x128, .f32⟩
  | 10 => ⟨S4x1x2x128, .f32⟩
  | 11 => ⟨S4x1x2x128, .f32⟩
  | 12 => ⟨S4x1x2x128, .f32⟩
  | 13 => ⟨S4x1x2x128, .f32⟩
  | 14 => ⟨S4x1x2x128, .f32⟩
  | 15 => ⟨S_, .f32⟩
  | 16 => ⟨S_, .f32⟩
  | 17 => ⟨S_, .f32⟩
  | 18 => ⟨S4x1x2x128, .f32⟩
  | 19 => ⟨S4x1x2x128, .f32⟩
  | 20 => ⟨S_, .f32⟩
  | 21 => ⟨S4x1x2x128, .f32⟩
  | 22 => ⟨S4x1x2x128, .f32⟩
  | 23 => ⟨S4x1x2x128, .i32⟩
  | 24 => ⟨S4x1x2x128, .i8⟩
  | 25 => ⟨S4x1x2x128, .f32⟩
  | 26 => ⟨S4x1x2x128, .f32⟩
  | 27 => ⟨S_, .f32⟩
  | 28 => ⟨S4x1x2, .f32⟩
  | 29 => ⟨S_, .f32⟩
  | 30 => ⟨S4x1x2, .f32⟩
  | 31 => ⟨S4x1x2, .i1⟩
  | 32 => ⟨S_, .f32⟩
  | 33 => ⟨S4x1x2, .f32⟩
  | 34 => ⟨S4x1x2, .f32⟩
  | 35 => ⟨S_, .f32⟩
  | 36 => ⟨S_, .f32⟩
  | 37 => ⟨S4x1x2, .f32⟩
  | 38 => ⟨S4x1x2, .f32⟩
  | 39 => ⟨S4x1x2x1, .f32⟩
  | 40 => ⟨S4x1x2x128, .f32⟩
  | 41 => ⟨S4x1x2x128, .f32⟩
  | 42 => ⟨S4x1x2x128, .f32⟩
  | 43 => ⟨S_, .f32⟩
  | 44 => ⟨S_, .f32⟩
  | 45 => ⟨S_, .f32⟩
  | 46 => ⟨S4x1x2x128, .f32⟩
  | 47 => ⟨S4x1x2x128, .f32⟩
  | 48 => ⟨S_, .f32⟩
  | 49 => ⟨S4x1x2x128, .f32⟩
  | 50 => ⟨S4x1x2x128, .f32⟩
  | 51 => ⟨S4x1x2x128, .i32⟩
  | 52 => ⟨S4x1x2x128, .i8⟩
  | 53 => ⟨S4x1x2x8x128, .bf16⟩
  | 54 => ⟨S4x32768x2x128, .i32⟩
  | 55 => ⟨S4x32768x2x128, .f32⟩
  | 56 => ⟨S4x32768x2x128, .bf16⟩
  | 57 => ⟨S4x2x128, .bf16⟩
  | 58 => ⟨S4x1x2x128, .bf16⟩
  | 59 => ⟨S4x32768x2x128, .bf16⟩
  | 60 => ⟨S4x32768x2x128, .bf16⟩
  | 61 => ⟨S4x2x128, .bf16⟩
  | 62 => ⟨S4x1x2x128, .bf16⟩
  | 63 => ⟨S4x32768x2x128, .bf16⟩
  | 64 => ⟨S4x32768x2x128, .bf16⟩
  | 65 => ⟨S4x2x32768x1x8, .f32⟩
  | 66 => ⟨S4x2x8x1x32768, .f32⟩
  | 67 => ⟨S_, .f32⟩
  | 68 => ⟨S4x2x8x1x32768, .f32⟩
  | 69 => ⟨S4x2x8x1x32768, .f32⟩
  | 70 => ⟨S4x2x1x1x8, .f32⟩
  | 71 => ⟨S4x2x8x1x1, .f32⟩
  | 72 => ⟨S_, .f32⟩
  | 73 => ⟨S4x2x8x1x1, .f32⟩
  | 74 => ⟨S4x2x8x1x1, .f32⟩
  | 75 => ⟨S32768, .i32⟩
  | 76 => ⟨S1x32768, .i32⟩
  | 77 => ⟨S4x1, .i32⟩
  | 78 => ⟨S4x32768, .i32⟩
  | 79 => ⟨S4x32768, .i32⟩
  | 80 => ⟨S4x32768, .i1⟩
  | 81 => ⟨S4x1x1x1x32768, .i1⟩
  | 82 => ⟨S_, .f32⟩
  | 83 => ⟨S_, .f32⟩
  | 84 => ⟨S4x2x8x1x32768, .i1⟩
  | 85 => ⟨S4x2x8x1x32768, .f32⟩
  | 86 => ⟨S4x2x8x1x32768, .f32⟩
  | 87 => ⟨S1, .i32⟩
  | 88 => ⟨S1x1, .i32⟩
  | 89 => ⟨S1, .i32⟩
  | 90 => ⟨S1x1, .i32⟩
  | 91 => ⟨S1x1, .i1⟩
  | 92 => ⟨S_, .f32⟩
  | 93 => ⟨S_, .f32⟩
  | 94 => ⟨S4x2x8x1x1, .i1⟩
  | 95 => ⟨S4x2x8x1x1, .f32⟩
  | 96 => ⟨S4x2x8x1x1, .f32⟩
  | 97 => ⟨S_, .f32⟩
  | 98 => ⟨S4x2x8x1, .f32⟩
  | 99 => ⟨S4x2x8x1x1, .f32⟩
  | 100 => ⟨S_, .f32⟩
  | 101 => ⟨S4x2x8x1, .f32⟩
  | 102 => ⟨S4x2x8x1x1, .f32⟩
  | 103 => ⟨S4x2x8x1x1, .f32⟩
  | 104 => ⟨S4x2x8x1x32768, .f32⟩
  | 105 => ⟨S4x2x8x1x32768, .f32⟩
  | 106 => ⟨S4x2x8x1x32768, .f32⟩
  | 107 => ⟨S4x2x8x1x1, .f32⟩
  | 108 => ⟨S4x2x8x1x1, .f32⟩
  | 109 => ⟨S_, .f32⟩
  | 110 => ⟨S4x2x8x1, .f32⟩
  | 111 => ⟨S4x2x8x1x1, .f32⟩
  | 112 => ⟨S_, .f32⟩
  | 113 => ⟨S4x2x8x1, .f32⟩
  | 114 => ⟨S4x2x8x1x1, .f32⟩
  | 115 => ⟨S4x2x8x1x1, .f32⟩
  | 116 => ⟨S_, .f32⟩
  | 117 => ⟨S4x2x8x1x1, .f32⟩
  | 118 => ⟨S4x2x8x1x1, .f32⟩
  | 119 => ⟨S4x2x32768, .f32⟩
  | 120 => ⟨S4x2x1x1x32768, .f32⟩
  | 121 => ⟨S4x2x8x1x32768, .f32⟩
  | 122 => ⟨S4x2x8x1x32768, .f32⟩
  | 123 => ⟨S4x2x8x1x32768, .f32⟩
  | 124 => ⟨S4x2x8x1x32768, .f32⟩
  | 125 => ⟨S4x2x8x1x32768, .bf16⟩
  | 126 => ⟨S4x32768x2x128, .i32⟩
  | 127 => ⟨S4x32768x2x128, .f32⟩
  | _ => ⟨S4x1x16x128, .bf16⟩

abbrev hbmTy0_1 (i : Nat) : BufTy := match i % 128 with
  | 0 => ⟨S4x32768x2x128, .bf16⟩
  | 1 => ⟨S4x2x128x8x1, .f32⟩
  | 2 => ⟨S4x1x2x8x128, .f32⟩
  | 3 => ⟨S4x2x8x1x1, .f32⟩
  | 4 => ⟨S4x1x2x128, .f32⟩
  | 5 => ⟨S4x2x128x8x1, .f32⟩
  | 6 => ⟨S4x1x2x8x128, .f32⟩
  | 7 => ⟨S4x1x2x8x128, .f32⟩
  | 8 => ⟨S4x1x16x128, .f32⟩
  | 9 => ⟨S4x1x16x128, .bf16⟩
  | _ => ⟨S4x1x16x128, .bf16⟩

abbrev hbmTy (i : Nat) : BufTy := match i / 128 with
  | 0 => hbmTy0_0 i
  | 1 => hbmTy0_1 i
  | _ => ⟨S4x1x16x128, .bf16⟩

abbrev bufTy : (tb : Table) → Fin (tcTables nBuf tb) → BufTy
  | .hbm, ⟨i, _⟩ => hbmTy i
  | _, _ => ⟨S4x1x16x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_cst_0 : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_cst_2 : Ref sig .tc := ⟨.hbm, 29, rfl⟩
abbrev main_v12 : Ref sig .tc := ⟨.hbm, 30, rfl⟩
abbrev main_v13 : Ref sig .tc := ⟨.hbm, 31, rfl⟩
abbrev main_cst_3 : Ref sig .tc := ⟨.hbm, 32, rfl⟩
abbrev main_v14 : Ref sig .tc := ⟨.hbm, 33, rfl⟩
abbrev main_v15 : Ref sig .tc := ⟨.hbm, 34, rfl⟩
abbrev main_cst_4 : Ref sig .tc := ⟨.hbm, 35, rfl⟩
abbrev main_call2_v0 : Ref sig .tc := ⟨.hbm, 36, rfl⟩
abbrev main_call2_v1 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_5 : Ref sig .tc := ⟨.hbm, 43, rfl⟩
abbrev main_cst_6 : Ref sig .tc := ⟨.hbm, 44, rfl⟩
abbrev main_call4_v0 : Ref sig .tc := ⟨.hbm, 45, rfl⟩
abbrev main_call4_v1 : Ref sig .tc := ⟨.hbm, 46, rfl⟩
abbrev main_call4_v2 : Ref sig .tc := ⟨.hbm, 47, rfl⟩
abbrev main_call4_v3 : Ref sig .tc := ⟨.hbm, 48, rfl⟩
abbrev main_call4_v4 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_cst_7 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_cst_8 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_cst_9 : Ref sig .tc := ⟨.hbm, 82, rfl⟩
abbrev main_call5_v0 : Ref sig .tc := ⟨.hbm, 83, rfl⟩
abbrev main_call5_v1 : Ref sig .tc := ⟨.hbm, 84, rfl⟩
abbrev main_call5_v2 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_cst_10 : Ref sig .tc := ⟨.hbm, 92, rfl⟩
abbrev main_call6_v0 : Ref sig .tc := ⟨.hbm, 93, rfl⟩
abbrev main_call6_v1 : Ref sig .tc := ⟨.hbm, 94, rfl⟩
abbrev main_call6_v2 : Ref sig .tc := ⟨.hbm, 95, rfl⟩
abbrev main_v57 : Ref sig .tc := ⟨.hbm, 96, rfl⟩
abbrev main_cst_11 : Ref sig .tc := ⟨.hbm, 97, rfl⟩
abbrev main_v58 : Ref sig .tc := ⟨.hbm, 98, rfl⟩
abbrev main_v59 : Ref sig .tc := ⟨.hbm, 99, rfl⟩
abbrev main_cst_12 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_cst_13 : Ref sig .tc := ⟨.hbm, 109, rfl⟩
abbrev main_v68 : Ref sig .tc := ⟨.hbm, 110, rfl⟩
abbrev main_v69 : Ref sig .tc := ⟨.hbm, 111, rfl⟩
abbrev main_cst_14 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_cst_15 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩

abbrev nD : Nat := 1
abbrev τ : Topo := Topo.v7x

variable {F : FTy → Type} [FloatOps F]
-- ==== Proof.Words.lean ====
/- Word arithmetic of the block index that the windows over the cache compute: the kernel reads the sequence's length
   from its table and takes the block of the grid's second coordinate, clamped to the last block that holds a live position. -/
module

public import Idealize.ShloMosaic.Init
public import Idealize.ShloMosaic.PureOps.Vector

@[expose] public section

noncomputable section

namespace Cert.Own.Words

open Idealize.ShloMosaic

/-- The block index the cache windows compute from the grid's second coordinate `j` and the length `n`. -/
def blkWord (j n : BitVec 32) : BitVec 32 :=
  let v3 : BitVec 32 := Scalar.maxsi (Scalar.subi n 1#32) 0#32
  let v4 : BitVec 32 := Scalar.divsi v3 4096#32
  let v9 : BitVec 32 := Scalar.subi (Scalar.extui (Scalar.cmpi .sgt v3 0#32)) (Scalar.extui (Scalar.cmpi .slt v3 0#32))
  let v14 : BitVec 32 := Scalar.subi (Scalar.extui (Scalar.cmpi .sgt 4096#32 0#32)) (Scalar.extui (Scalar.cmpi .slt 4096#32 0#32))
  let v15 : BitVec 1 := Scalar.cmpi .ne v9 v14
  let v17 : BitVec 1 := Scalar.cmpi .ne (Scalar.remsi v3 4096#32) 0#32
  Scalar.minsi j (Scalar.select (Scalar.andi v15 v17) (Scalar.subi v4 1#32) v4)

/-- A word that is not negative read as a signed number is its unsigned reading. -/
theorem toInt_of_lt {u : BitVec 32} (h : u.toNat < 2 ^ 31) : u.toInt = u.toNat := by
  rw [BitVec.toInt_eq_toNat_cond]; split <;> omega

/-- The larger of a word and zero is not negative. -/
theorem relu_lt (x : BitVec 32) : (Scalar.maxsi x 0#32).toNat < 2 ^ 31 := by
  simp only [Scalar.maxsi, IntOp.maxsi, BitVec.slt]
  split
  · rename_i h
    have h := of_decide_eq_true h
    rw [BitVec.toInt_eq_toNat_cond, BitVec.toInt_eq_toNat_cond] at h
    simp at h
    split at h <;> omega
  · simp

/-- The quotient by 4096, with the sign fix that never applies: for a word that is not negative it is the unsigned quotient. -/
theorem quot_eq {u : BitVec 32} (hu : u.toNat < 2 ^ 31) :
    Scalar.select (Scalar.andi
        (Scalar.cmpi .ne (Scalar.subi (Scalar.extui (Scalar.cmpi .sgt u 0#32)) (Scalar.extui (Scalar.cmpi .slt u 0#32)))
          (Scalar.subi (Scalar.extui (Scalar.cmpi .sgt 4096#32 0#32)) (Scalar.extui (Scalar.cmpi .slt 4096#32 0#32)) : BitVec 32))
        (Scalar.cmpi .ne (Scalar.remsi u 4096#32) 0#32))
      (Scalar.subi (Scalar.divsi u 4096#32) 1#32) (Scalar.divsi u 4096#32) = u / 4096#32 := by
  have hm : u.msb = false := by rw [BitVec.msb_eq_decide]; simp; omega
  have hd : Scalar.divsi u 4096#32 = u / 4096#32 := by
    have hm' : (4096#32).msb = false := by decide
    have hs : u.sdiv 4096#32 = u / 4096#32 := by rw [BitVec.sdiv_eq, hm, hm']; rfl
    simp [Scalar.divsi, IntOp.divsi, IntOp.SDivCorner, hs]
  rw [hd]
  have hsel : Scalar.andi
        (Scalar.cmpi .ne (Scalar.subi (Scalar.extui (Scalar.cmpi .sgt u 0#32)) (Scalar.extui (Scalar.cmpi .slt u 0#32)))
          (Scalar.subi (Scalar.extui (Scalar.cmpi .sgt 4096#32 0#32)) (Scalar.extui (Scalar.cmpi .slt 4096#32 0#32)) : BitVec 32))
        (Scalar.cmpi .ne (Scalar.remsi u 4096#32) 0#32) = 0#1 := by
    by_cases h0 : u = 0#32
    · subst h0; decide
    · have hp : 0 < u.toNat := by
        rcases Nat.eq_zero_or_pos u.toNat with h | h
        · exact absurd (BitVec.eq_of_toNat_eq (by simpa using h)) h0
        · exact h
      have h1 : Scalar.cmpi .sgt u 0#32 = 1#1 := by
        have : (0#32).slt u = true := by
          simp only [BitVec.slt, decide_eq_true_eq]; rw [toInt_of_lt hu]; simp; omega
        simp [Scalar.cmpi, IntOp.cmpi, this]
      have h2 : Scalar.cmpi .slt u 0#32 = 0#1 := by
        have : u.slt 0#32 = false := by
          simp only [BitVec.slt, decide_eq_false_iff_not]; rw [toInt_of_lt hu]; simp
        simp [Scalar.cmpi, IntOp.cmpi, this]
      rw [h1, h2]
      have : Scalar.cmpi .ne (Scalar.subi (Scalar.extui (1#1 : BitVec 1)) (Scalar.extui (0#1 : BitVec 1)))
          (Scalar.subi (Scalar.extui (Scalar.cmpi .sgt 4096#32 0#32)) (Scalar.extui (Scalar.cmpi .slt 4096#32 0#32)) : BitVec 32) = 0#1 := by decide
      rw [this]; simp [Scalar.andi, IntOp.andi]
  rw [hsel]; simp [Scalar.select]

/-- The quotient of a word by 4096. -/
theorem quot_toNat (u : BitVec 32) : (u / 4096#32).toNat = u.toNat / 4096 := by simp [BitVec.toNat_udiv]

/-- The block index is the smaller of the grid's coordinate and the last live block. -/
theorem blkWord_toNat (j n : BitVec 32) (hj : j.toNat < 8) :
    (blkWord j n).toNat = min j.toNat ((Scalar.maxsi (Scalar.subi n 1#32) 0#32).toNat / 4096) := by
  have hu := relu_lt (Scalar.subi n 1#32)
  unfold blkWord
  simp only []
  rw [quot_eq hu]
  generalize hw : Scalar.maxsi (Scalar.subi n 1#32) 0#32 = w at hu ⊢
  have h1 : j.toInt = j.toNat := toInt_of_lt (by omega)
  have h2 : (w / 4096#32).toInt = (w.toNat / 4096 : ℕ) := by
    rw [toInt_of_lt (by rw [quot_toNat]; omega), quot_toNat]
  simp only [Scalar.minsi, IntOp.minsi]
  split
  · rename_i h; simp only [BitVec.slt, decide_eq_true_eq] at h; omega
  · rename_i h; rw [quot_toNat]; simp only [BitVec.slt, decide_eq_true_eq] at h; omega

/-- The block index is one of the eight blocks. -/
theorem blkWord_lt (j n : BitVec 32) (hj : j.toNat < 8) : (blkWord j n).toNat < 8 := by
  rw [blkWord_toNat j n hj]; omega

/-- Where the block starts below the length, the block index is the grid's own coordinate. -/
theorem blkWord_live (j n : BitVec 32) (hj : j.toNat < 8) (hl : (4096 * j.toNat : ℤ) < n.toInt) :
    (blkWord j n).toNat = j.toNat := by
  rw [blkWord_toNat j n hj]
  have hn : n.toInt = n.toNat ∧ n.toNat < 2 ^ 31 := by
    rw [BitVec.toInt_eq_toNat_cond] at hl ⊢; have := n.isLt; split at hl <;> constructor <;> first | omega | skip
    all_goals split <;> omega
  have h1 : (Scalar.subi n 1#32).toNat = n.toNat - 1 := by
    simp only [Scalar.subi, IntOp.subi, BitVec.toNat_sub]; simp; omega
  have : Scalar.maxsi (Scalar.subi n 1#32) 0#32 = Scalar.subi n 1#32 := by
    simp only [Scalar.maxsi, IntOp.maxsi]
    split
    · rfl
    · rename_i h; simp only [BitVec.slt, decide_eq_true_eq] at h
      have h2 : (0#32 : BitVec 32).toInt = 0 := by decide
      have h3 : (Scalar.subi n 1#32).toInt = (Scalar.subi n 1#32).toNat := toInt_of_lt (by omega)
      have h4 : (0#32 : BitVec 32).toNat = 0 := by decide
      apply BitVec.eq_of_toNat_eq; omega
  rw [this, h1]; omega

/-- The kernel's condition that a block holds a live position: its first position is below the length. -/
theorem live_iff (j n : BitVec 32) (hj : j.toNat < 8) :
    Scalar.cmpi .ne (Scalar.extui (Scalar.cmpi .slt (Scalar.muli j 4096#32) n) : BitVec 32) 0#32 = 1#1 ↔ (4096 * j.toNat : ℤ) < n.toInt := by
  have h : (Scalar.muli j 4096#32).toInt = 4096 * j.toNat := by
    have : (Scalar.muli j 4096#32).toNat = 4096 * j.toNat := by
      simp only [Scalar.muli, IntOp.muli, BitVec.toNat_mul]; simp; omega
    rw [toInt_of_lt (by omega), this]; simp
  by_cases hl : (4096 * j.toNat : ℤ) < n.toInt
  · have : (Scalar.muli j 4096#32).slt n = true := by simp only [BitVec.slt, decide_eq_true_eq]; rw [h]; exact hl
    simp [Scalar.cmpi, IntOp.cmpi, this, hl, Scalar.extui]
  · have : (Scalar.muli j 4096#32).slt n = false := by simp only [BitVec.slt, decide_eq_false_iff_not]; rw [h]; exact hl
    simp [Scalar.cmpi, IntOp.cmpi, this, hl, Scalar.extui]

end Cert.Own.Words

end
-- ==== Proof.Ok.lean ====
/- The side condition on the table of lengths: whatever the lengths are, the block a cache window takes is inside its
   array. -/
module

public import proofs.«01_k».proof.Proof.Gen.Kernel.Frame
public import proofs.«01_k».proof.Proof.Words

@[expose] public section

noncomputable section

namespace Cert.Kernel.Gen

open Idealize.ShloMosaic Idealize.ShloMosaic.Tactic Cert.Own.Words

variable {F : FTy → Type} [FloatOps F]

/-- The length that the windows' index maps read at a grid point. -/
abbrev lenWord (pf : pre0.Contents (Elt F)) (i : grid0.Coords) : BitVec 32 :=
  pf.at 0 (Rect.unit (s := S4) ![(Scalar.indexCast (BitVec.ofNat 32 (i 0).val)).toNat] S1.size (k0_off1_inb i)) numel1_S1

/-- The block index of the cached keys' window. -/
theorem ix3_eq (pf : pre0.Contents (Elt F)) (i : grid0.Coords) :
    cc0_transform_3 k0_off1_inb numel1_S1 pf i =
      ![(BitVec.ofNat 32 (i 0).val).toNat, 0, (blkWord (BitVec.ofNat 32 (i 1).val) (lenWord pf i)).toNat, 0] := rfl

/-- The block index of the cached values' window. -/
theorem ix6_eq (pf : pre0.Contents (Elt F)) (i : grid0.Coords) :
    cc0_transform_6 k0_off1_inb numel1_S1 pf i =
      ![(BitVec.ofNat 32 (i 0).val).toNat, 0, (blkWord (BitVec.ofNat 32 (i 1).val) (lenWord pf i)).toNat, 0] := rfl

/-- The block index of the value scales' window. -/
theorem ix7_eq (pf : pre0.Contents (Elt F)) (i : grid0.Coords) :
    cc0_transform_7 k0_off1_inb numel1_S1 pf i =
      ![(BitVec.ofNat 32 (i 0).val).toNat, 0, (blkWord (BitVec.ofNat 32 (i 1).val) (lenWord pf i)).toNat] := rfl

/-- A batch coordinate as a word. -/
theorem coord0 (i : grid0.Coords) : (BitVec.ofNat 32 (i 0).val).toNat = (i 0).val ∧ (i 0).val < 4 := by
  have h : (i 0).val < 4 := (i 0).isLt
  refine ⟨?_, h⟩
  rw [BitVec.toNat_ofNat]; omega

/-- A block coordinate as a word. -/
theorem coord1 (i : grid0.Coords) : (BitVec.ofNat 32 (i 1).val).toNat = (i 1).val ∧ (i 1).val < 8 := by
  have h : (i 1).val < 8 := (i 1).isLt
  refine ⟨?_, h⟩
  rw [BitVec.toNat_ofNat]; omega

/-- The side condition holds for every contents of the table. -/
theorem ok_all (pf : pre0.Contents (Elt F)) : ok0 pf := by
  have key : ∀ i : grid0.Coords, (BitVec.ofNat 32 (i 0).val).toNat < 4 ∧
      (blkWord (BitVec.ofNat 32 (i 1).val) (lenWord pf i)).toNat < 8 := fun i => by
    have h0 := coord0 i
    have h1 := coord1 i
    exact ⟨by omega, blkWord_lt _ _ (by omega)⟩
  refine ⟨fun i => ?_, fun i => ?_, fun i => ?_⟩
  · refine ⟨?_, .inr (Affine.block_words_dvd (of_decide_eq_true rfl) (by decide))⟩
    rw [ix3_eq]; obtain ⟨h0, h1⟩ := key i
    intro a
    match a with
    | 0 => show (_ + 1) * 1 ≤ 4; simp only [Matrix.cons_val_zero]; omega
    | 1 => show (0 + 1) * 2 ≤ 2; omega
    | 2 => show ((blkWord (BitVec.ofNat 32 (i 1).val) (lenWord pf i)).toNat + 1) * 4096 ≤ 32768; omega
    | 3 => show (0 + 1) * 128 ≤ 128; omega
  · refine ⟨?_, .inr (Affine.block_words_dvd (of_decide_eq_true rfl) (by decide))⟩
    rw [ix6_eq]; obtain ⟨h0, h1⟩ := key i
    intro a
    match a with
    | 0 => show (_ + 1) * 1 ≤ 4; simp only [Matrix.cons_val_zero]; omega
    | 1 => show (0 + 1) * 2 ≤ 2; omega
    | 2 => show ((blkWord (BitVec.ofNat 32 (i 1).val) (lenWord pf i)).toNat + 1) * 4096 ≤ 32768; omega
    | 3 => show (0 + 1) * 128 ≤ 128; omega
  · refine ⟨?_, .inl rfl⟩
    rw [ix7_eq]; obtain ⟨h0, h1⟩ := key i
    intro a
    match a with
    | 0 => show (_ + 1) * 1 ≤ 4; simp only [Matrix.cons_val_zero]; omega
    | 1 => show (0 + 1) * 2 ≤ 2; omega
    | 2 => show ((blkWord (BitVec.ofNat 32 (i 1).val) (lenWord pf i)).toNat + 1) * 4096 ≤ 32768; omega

end Cert.Kernel.Gen

end
-- ==== Proof.OkIdeal.lean ====
/- The side condition on the table of lengths: whatever the lengths are, the block a cache window takes is inside its
   array. -/
module

public import proofs.«01_k».proof.Proof.Gen.KernelIdeal.Frame
public import proofs.«01_k».proof.Proof.Words

@[expose] public section

noncomputable section

namespace Cert.KernelIdeal.Gen

open Idealize.ShloMosaic Idealize.ShloMosaic.Tactic Cert.Own.Words

variable {F : FTy → Type} [FloatOps F]

/-- The length that the windows' index maps read at a grid point. -/
abbrev lenWord (pf : pre0.Contents (Elt F)) (i : grid0.Coords) : BitVec 32 :=
  pf.at 0 (Rect.unit (s := S4) ![(Scalar.indexCast (BitVec.ofNat 32 (i 0).val)).toNat] S1.size (k0_off1_inb i)) numel1_S1

/-- The block index of the cached keys' window. -/
theorem ix3_eq (pf : pre0.Contents (Elt F)) (i : grid0.Coords) :
    cc0_transform_3 k0_off1_inb numel1_S1 pf i =
      ![(BitVec.ofNat 32 (i 0).val).toNat, 0, (blkWord (BitVec.ofNat 32 (i 1).val) (lenWord pf i)).toNat, 0] := rfl

/-- The block index of the cached values' window. -/
theorem ix6_eq (pf : pre0.Contents (Elt F)) (i : grid0.Coords) :
    cc0_transform_6 k0_off1_inb numel1_S1 pf i =
      ![(BitVec.ofNat 32 (i 0).val).toNat, 0, (blkWord (BitVec.ofNat 32 (i 1).val) (lenWord pf i)).toNat, 0] := rfl

/-- The block index of the value scales' window. -/
theorem ix7_eq (pf : pre0.Contents (Elt F)) (i : grid0.Coords) :
    cc0_transform_7 k0_off1_inb numel1_S1 pf i =
      ![(BitVec.ofNat 32 (i 0).val).toNat, 0, (blkWord (BitVec.ofNat 32 (i 1).val) (lenWord pf i)).toNat] := rfl

/-- A batch coordinate as a word. -/
theorem coord0 (i : grid0.Coords) : (BitVec.ofNat 32 (i 0).val).toNat = (i 0).val ∧ (i 0).val < 4 := by
  have h : (i 0).val < 4 := (i 0).isLt
  refine ⟨?_, h⟩
  rw [BitVec.toNat_ofNat]; omega

/-- A block coordinate as a word. -/
theorem coord1 (i : grid0.Coords) : (BitVec.ofNat 32 (i 1).val).toNat = (i 1).val ∧ (i 1).val < 8 := by
  have h : (i 1).val < 8 := (i 1).isLt
  refine ⟨?_, h⟩
  rw [BitVec.toNat_ofNat]; omega

/-- The side condition holds for every contents of the table. -/
theorem ok_all (pf : pre0.Contents (Elt F)) : ok0 pf := by
  have key : ∀ i : grid0.Coords, (BitVec.ofNat 32 (i 0).val).toNat < 4 ∧
      (blkWord (BitVec.ofNat 32 (i 1).val) (lenWord pf i)).toNat < 8 := fun i => by
    have h0 := coord0 i
    have h1 := coord1 i
    exact ⟨by omega, blkWord_lt _ _ (by omega)⟩
  refine ⟨fun i => ?_, fun i => ?_, fun i => ?_⟩
  · refine ⟨?_, .inr (Affine.block_words_dvd (of_decide_eq_true rfl) (by decide))⟩
    rw [ix3_eq]; obtain ⟨h0, h1⟩ := key i
    intro a
    match a with
    | 0 => show (_ + 1) * 1 ≤ 4; simp only [Matrix.cons_val_zero]; omega
    | 1 => show (0 + 1) * 2 ≤ 2; omega
    | 2 => show ((blkWord (BitVec.ofNat 32 (i 1).val) (lenWord pf i)).toNat + 1) * 4096 ≤ 32768; omega
    | 3 => show (0 + 1) * 128 ≤ 128; omega
  · refine ⟨?_, .inr (Affine.block_words_dvd (of_decide_eq_true rfl) (by decide))⟩
    rw [ix6_eq]; obtain ⟨h0, h1⟩ := key i
    intro a
    match a with
    | 0 => show (_ + 1) * 1 ≤ 4; simp only [Matrix.cons_val_zero]; omega
    | 1 => show (0 + 1) * 2 ≤ 2; omega
    | 2 => show ((blkWord (BitVec.ofNat 32 (i 1).val) (lenWord pf i)).toNat + 1) * 4096 ≤ 32768; omega
    | 3 => show (0 + 1) * 128 ≤ 128; omega
  · refine ⟨?_, .inl rfl⟩
    rw [ix7_eq]; obtain ⟨h0, h1⟩ := key i
    intro a
    match a with
    | 0 => show (_ + 1) * 1 ≤ 4; simp only [Matrix.cons_val_zero]; omega
    | 1 => show (0 + 1) * 2 ≤ 2; omega
    | 2 => show ((blkWord (BitVec.ofNat 32 (i 1).val) (lenWord pf i)).toNat + 1) * 4096 ≤ 32768; omega

end Cert.KernelIdeal.Gen

end
-- ==== Proof.Cases.lean ====
module

public import proofs.«01_k».proof.Proof.Gen.KernelIdeal.Frame
public import Idealize.ShloMosaic.Lib.Pipeline.ValueKit
public import Idealize.ShloMosaic.Lib.Pipeline.ReadBack

/-! What one grid point leaves in each scratch and output block, as functions of its input blocks and of the state
    before it. -/

@[expose] public section

set_option maxRecDepth 16384

noncomputable section

namespace Cert.KernelIdeal.Gen

open Idealize.ShloMosaic Idealize.ShloMosaic.TcCoe Idealize.ShloMosaic.Tactic

variable {F : FTy → Type} [FloatOps F]

/-- Rows 0–7 and 8–15 of a state array, from its two halves. -/
def two {F : FTy → Type} (v u : Vec F S8x128 .f32) : Vec F S16x128 .f32 := fun y =>
  if h : (y 0).val < 8 then v (ix2 ⟨(y 0).val, h⟩ (y 1)) else u (ix2 ⟨(y 0).val - 8, by have := (y 0).isLt; change _ < 16 at this; omega⟩ (y 1))

/-- The same of an output block. -/
def two4 {F : FTy → Type} (v u : Vec F S1x1x8x128 .bf16) : Vec F S1x1x16x128 .bf16 := fun y =>
  if h : (y 2).val < 8 then v (ix4 0 0 ⟨(y 2).val, h⟩ (y 3)) else u (ix4 0 0 ⟨(y 2).val - 8, by have := (y 2).isLt; change _ < 16 at this; omega⟩ (y 3))

/-- The first half of a state array. -/
def lo {F : FTy → Type} (X : Vec F S16x128 .f32) : Vec F S8x128 .f32 :=
  View.ld X (Rect.unit ![0, 0] ![8, 128] inb_S16x128_S8x128_0_0)

/-- The second half of a state array. -/
def hi {F : FTy → Type} (X : Vec F S16x128 .f32) : Vec F S8x128 .f32 :=
  View.ld X (Rect.unit ![8, 0] ![8, 128] inb_S16x128_S8x128_8_0)

/-- The first eight rows of a scratch buffer, read at an index. -/
theorem lo_apply (X : Vec F S16x128 .f32) (r : Fin 8) (d : Fin 128) :
    lo X (ix2 r d) = X (ix2 ⟨r.val, by omega⟩ d) := by
  unfold lo
  exact View.ld_unit_apply_of (Val := Elt F) (e := .f32) X _ _ _ _ _ (by
    intro a; fin_cases a
    · exact (Nat.zero_add _).symm
    · exact (Nat.zero_add _).symm)

/-- The last eight rows of a scratch buffer, read at an index. -/
theorem hi_apply (X : Vec F S16x128 .f32) (r : Fin 8) (d : Fin 128) :
    hi X (ix2 r d) = X (ix2 ⟨r.val + 8, by omega⟩ d) := by
  unfold hi
  exact View.ld_unit_apply_of (Val := Elt F) (e := .f32) X _ _ _ _ _ (by
    intro a; fin_cases a
    · exact Nat.add_comm _ _
    · exact (Nat.zero_add _).symm)

/-- Two stacked halves, read at a row below 8. -/
theorem two_lt (v u : Vec F S8x128 .f32) (r : Fin 16) (d : Fin 128) (h : r.val < 8) :
    two v u (ix2 r d) = v (ix2 ⟨r.val, h⟩ d) := by
  unfold two
  rw [dif_pos (show ((ix2 r d : S16x128.Idx) 0).val < 8 from h)]; rfl

/-- Two stacked halves, read at a row from 8 on. -/
theorem two_ge (v u : Vec F S8x128 .f32) (r : Fin 16) (d : Fin 128) (h : ¬ r.val < 8) :
    two v u (ix2 r d) = u (ix2 ⟨r.val - 8, by omega⟩ d) := by
  unfold two
  rw [dif_neg (show ¬ ((ix2 r d : S16x128.Idx) 0).val < 8 from h)]; rfl

/-- The output block of two stacked halves, read at a row below 8. -/
theorem two4_lt (v u : Vec F S1x1x8x128 .bf16) (r : Fin 16) (d : Fin 128) (h : r.val < 8) :
    two4 v u (ix4 0 0 r d) = v (ix4 0 0 ⟨r.val, h⟩ d) := by
  unfold two4
  rw [dif_pos (show ((ix4 0 0 r d : S1x1x16x128.Idx) 2).val < 8 from h)]; rfl

/-- The output block of two stacked halves, read at a row from 8 on. -/
theorem two4_ge (v u : Vec F S1x1x8x128 .bf16) (r : Fin 16) (d : Fin 128) (h : ¬ r.val < 8) :
    two4 v u (ix4 0 0 r d) = u (ix4 0 0 ⟨r.val - 8, by omega⟩ d) := by
  unfold two4
  rw [dif_neg (show ¬ ((ix4 0 0 r d : S1x1x16x128.Idx) 2).val < 8 from h)]; rfl

/-- Two stores of eight rows leave the two halves, whatever was stored before. -/
theorem canon_two (v u : Vec F S8x128 .f32) (L : List (View.Piece (Elt F) S16x128 .f32)) :
    View.canon (⟨Rect.unit ![8, 0] ![8, 128] inb_S16x128_S8x128_8_0, u⟩ ::
      ⟨Rect.unit ![0, 0] ![8, 128] inb_S16x128_S8x128_0_0, v⟩ :: L) = two v u := by
  funext y
  have h16 : (y 0).val < 16 := (y 0).isLt
  by_cases h : (y 0).val < 8
  · rw [View.canon_cons_of_not_mem]
    · obtain ⟨r, d, rfl⟩ : ∃ (r : Fin 16) (d : Fin 128), y = ix2 r d := ⟨y 0, y 1, eq_ix2 y⟩
      have e : ix2 r d = (Rect.unit (s := S16x128) ![0, 0] ![8, 128] inb_S16x128_S8x128_0_0).emb (ix2 (⟨r.val, h⟩ : Fin 8) d) := by
        funext a; apply Fin.ext
        refine Eq.trans ?_ (Rect.idx_unit_val _ _ _ _ a).symm
        fin_cases a
        · exact (Nat.zero_add _).symm
        · exact (Nat.zero_add _).symm
      refine (congrArg _ e).trans ((View.canon_cons_emb _ _ _ _).trans (two_lt v u r d h).symm)
    · intro hm
      obtain ⟨x, hx⟩ := (Rect.unit (s := S16x128) ![8, 0] ![8, 128] inb_S16x128_S8x128_8_0).exists_idx_of_mem hm
      have := Rect.idx_unit_val (s := S16x128) ![8, 0] ![8, 128] inb_S16x128_S8x128_8_0 x 0
      have h2 : (y 0).val = 8 + (x 0).val := by rw [← hx]; exact this
      omega
  · obtain ⟨r, d, rfl⟩ : ∃ (r : Fin 16) (d : Fin 128), y = ix2 r d := ⟨y 0, y 1, eq_ix2 y⟩
    have h8 : ¬ r.val < 8 := h
    have e : ix2 r d = (Rect.unit (s := S16x128) ![8, 0] ![8, 128] inb_S16x128_S8x128_8_0).emb (ix2 (⟨r.val - 8, by omega⟩ : Fin 8) d) := by
      funext a; apply Fin.ext
      refine Eq.trans ?_ (Rect.idx_unit_val _ _ _ _ a).symm
      fin_cases a
      · change r.val = 8 + (r.val - 8); omega
      · exact (Nat.zero_add _).symm
    refine (congrArg _ e).trans ((View.canon_cons_emb _ _ _ _).trans (two_ge v u r d h).symm)

/-- The two stores of the output's halves leave the two halves stacked. -/
theorem canon_two4 (v u : Vec F S1x1x8x128 .bf16) :
    View.canon [(⟨Rect.unit ![0, 0, 8, 0] ![1, 1, 8, 128] inb_S1x1x16x128_S1x1x8x128_0_0_8_0, u⟩ : View.Piece (Elt F) S1x1x16x128 .bf16),
      ⟨Rect.unit ![0, 0, 0, 0] ![1, 1, 8, 128] inb_S1x1x16x128_S1x1x8x128_0_0_0_0, v⟩] = two4 v u := by
  funext y
  obtain ⟨a0, b0, r, d, rfl⟩ : ∃ (a : Fin 1) (b : Fin 1) (r : Fin 16) (d : Fin 128), y = ix4 a b r d := ⟨y 0, y 1, y 2, y 3, eq_ix4 y⟩
  obtain rfl := Subsingleton.elim a0 0
  obtain rfl := Subsingleton.elim b0 0
  by_cases h : r.val < 8
  · rw [View.canon_cons_of_not_mem]
    · have e : ix4 0 0 r d = (Rect.unit (s := S1x1x16x128) ![0, 0, 0, 0] ![1, 1, 8, 128] inb_S1x1x16x128_S1x1x8x128_0_0_0_0).emb (ix4 (0 : Fin 1) (0 : Fin 1) (⟨r.val, h⟩ : Fin 8) d) := by
        funext a; apply Fin.ext
        refine Eq.trans ?_ (Rect.idx_unit_val _ _ _ _ a).symm
        fin_cases a <;> exact (Nat.zero_add _).symm
      refine (congrArg _ e).trans ((View.canon_cons_emb _ _ _ _).trans (two4_lt v u r d h).symm)
    · intro hm
      obtain ⟨x, hx⟩ := (Rect.unit (s := S1x1x16x128) ![0, 0, 8, 0] ![1, 1, 8, 128] inb_S1x1x16x128_S1x1x8x128_0_0_8_0).exists_idx_of_mem hm
      have := Rect.idx_unit_val (s := S1x1x16x128) ![0, 0, 8, 0] ![1, 1, 8, 128] inb_S1x1x16x128_S1x1x8x128_0_0_8_0 x 2
      have h2 : r.val = 8 + (x 2).val := (congrArg (fun z : S1x1x16x128.Idx => (z 2).val) hx.symm).trans this
      omega
  · have e : ix4 0 0 r d = (Rect.unit (s := S1x1x16x128) ![0, 0, 8, 0] ![1, 1, 8, 128] inb_S1x1x16x128_S1x1x8x128_0_0_8_0).emb (ix4 (0 : Fin 1) (0 : Fin 1) (⟨r.val - 8, by omega⟩ : Fin 8) d) := by
      funext a; apply Fin.ext
      refine Eq.trans ?_ (Rect.idx_unit_val _ _ _ _ a).symm
      fin_cases a
      · exact (Nat.zero_add _).symm
      · exact (Nat.zero_add _).symm
      · change r.val = 8 + (r.val - 8); omega
      · exact (Nat.zero_add _).symm
    refine (congrArg _ e).trans ((View.canon_cons_emb _ _ _ _).trans (two4_ge v u r d h).symm)

/-- The first half of two stacked halves. -/
theorem lo_two (v u : Vec F S8x128 .f32) : lo (two v u) = v := by
  funext y
  obtain ⟨r, d, rfl⟩ : ∃ (r : Fin 8) (d : Fin 128), y = ix2 r d := ⟨y 0, y 1, eq_ix2 y⟩
  rw [lo_apply]
  exact dif_pos r.isLt

/-- The second half of two stacked halves. -/
theorem hi_two (v u : Vec F S8x128 .f32) : hi (two v u) = u := by
  funext y
  obtain ⟨r, d, rfl⟩ : ∃ (r : Fin 8) (d : Fin 128), y = ix2 r d := ⟨y 0, y 1, eq_ix2 y⟩
  rw [hi_apply]
  refine (dif_neg ?_).trans ?_
  · change ¬ r.val + 8 < 8; omega
  · exact congrArg u (congrArg (fun z => ix2 z d) (Fin.ext (Nat.add_sub_cancel r.val 8)))

/-- The running maximum after one block, of one head: its eight query rows `q`, its zero and scale, its keys. -/
def hM (a n : BitVec 32) (q : Vec F S1x1x8x128 .bf16) (z s : Vec F S1x1x128 .f32) (k : Vec F S1x1x4096x128 .i8)
    (M : Vec F S8x128 .f32) : Vec F S8x128 .f32 :=
  k0_pay17 (k0_pay12 (F := F) a n q z s k M)

/-- The running sum of weights after one block, of one head. -/
def hL (a n : BitVec 32) (q : Vec F S1x1x8x128 .bf16) (z s : Vec F S1x1x128 .f32) (k : Vec F S1x1x4096x128 .i8)
    (M L : Vec F S8x128 .f32) : Vec F S8x128 .f32 :=
  k0_pay18 (k0_pay10 (F := F) a n) (k0_pay13 (F := F) a n q z s k M) (k0_pay14 (F := F) a n q z s k M) k0_pay15 L

/-- The running weighted sum of value rows after one block, of one head. -/
def hA (a n : BitVec 32) (q : Vec F S1x1x8x128 .bf16) (z s : Vec F S1x1x128 .f32) (k : Vec F S1x1x4096x128 .i8)
    (vs : Vec F S1x1x4096 .f32) (cv : Vec F S1x1x4096x128 .i8) (M A : Vec F S8x128 .f32) : Vec F S8x128 .f32 :=
  k0_pay19 (k0_pay10 (F := F) a n) (k0_pay13 (F := F) a n q z s k M) (k0_pay14 (F := F) a n q z s k M) k0_pay15 vs cv A

/-- Eight query rows of the block. -/
abbrev qlo (x0 : Vec F S1x1x16x128 .bf16) : Vec F S1x1x8x128 .bf16 :=
  View.ld x0 (Rect.unit ![0, 0, 0, 0] ![1, 1, 8, 128] inb_S1x1x16x128_S1x1x8x128_0_0_0_0)
/-- The other eight. -/
abbrev qhi (x0 : Vec F S1x1x16x128 .bf16) : Vec F S1x1x8x128 .bf16 :=
  View.ld x0 (Rect.unit ![0, 0, 8, 0] ![1, 1, 8, 128] inb_S1x1x16x128_S1x1x8x128_0_0_8_0)
/-- One head's row of a scale or zero block. -/
abbrev zlo (x : Vec F S1x2x128 .f32) : Vec F S1x1x128 .f32 :=
  View.ld x (Rect.unit ![0, 0, 0] ![1, 1, 128] inb_S1x2x128_S1x1x128_0_0_0)
/-- The other head's. -/
abbrev zhi (x : Vec F S1x2x128 .f32) : Vec F S1x1x128 .f32 :=
  View.ld x (Rect.unit ![0, 1, 0] ![1, 1, 128] inb_S1x2x128_S1x1x128_0_1_0)
/-- One head's codes of a cache block. -/
abbrev clo (x : Vec F S1x2x4096x128 .i8) : Vec F S1x1x4096x128 .i8 :=
  View.ld x (Rect.unit ![0, 0, 0, 0] ![1, 1, 4096, 128] inb_S1x2x4096x128_S1x1x4096x128_0_0_0_0)
/-- The other head's. -/
abbrev chi (x : Vec F S1x2x4096x128 .i8) : Vec F S1x1x4096x128 .i8 :=
  View.ld x (Rect.unit ![0, 1, 0, 0] ![1, 1, 4096, 128] inb_S1x2x4096x128_S1x1x4096x128_0_1_0_0)
/-- One head's value scales of a block. -/
abbrev wlo (x : Vec F S1x2x4096 .f32) : Vec F S1x1x4096 .f32 :=
  View.ld x (Rect.unit ![0, 0, 0] ![1, 1, 4096] inb_S1x2x4096_S1x1x4096_0_0_0)
/-- The other head's. -/
abbrev whi (x : Vec F S1x2x4096 .f32) : Vec F S1x1x4096 .f32 :=
  View.ld x (Rect.unit ![0, 1, 0] ![1, 1, 4096] inb_S1x2x4096_S1x1x4096_0_1_0)
/-- One head's row of a new key or value block. -/
abbrev nlo (x : Vec F S1x1x2x128 .bf16) : Vec F S1x1x1x128 .bf16 :=
  View.ld x (Rect.unit ![0, 0, 0, 0] ![1, 1, 1, 128] inb_S1x1x2x128_S1x1x1x128_0_0_0_0)
/-- The other head's. -/
abbrev nhi (x : Vec F S1x1x2x128 .bf16) : Vec F S1x1x1x128 .bf16 :=
  View.ld x (Rect.unit ![0, 0, 1, 0] ![1, 1, 1, 128] inb_S1x1x2x128_S1x1x1x128_0_0_1_0)

/-- The running maxima after one block, both heads. -/
def newM (a n : BitVec 32) (x0 : Vec F S1x1x16x128 .bf16) (x3 : Vec F S1x2x4096x128 .i8) (x4 x5 : Vec F S1x2x128 .f32)
    (M : Vec F S16x128 .f32) : Vec F S16x128 .f32 :=
  two (hM a n (qlo x0) (zlo x5) (zlo x4) (clo x3) (lo M)) (hM a n (qhi x0) (zhi x5) (zhi x4) (chi x3) (hi M))

/-- The running sums of weights after one block, both heads. -/
def newL (a n : BitVec 32) (x0 : Vec F S1x1x16x128 .bf16) (x3 : Vec F S1x2x4096x128 .i8) (x4 x5 : Vec F S1x2x128 .f32)
    (M L : Vec F S16x128 .f32) : Vec F S16x128 .f32 :=
  two (hL a n (qlo x0) (zlo x5) (zlo x4) (clo x3) (lo M) (lo L)) (hL a n (qhi x0) (zhi x5) (zhi x4) (chi x3) (hi M) (hi L))

/-- The running weighted sums of value rows after one block, both heads. -/
def newA (a n : BitVec 32) (x0 : Vec F S1x1x16x128 .bf16) (x3 : Vec F S1x2x4096x128 .i8) (x4 x5 : Vec F S1x2x128 .f32)
    (x6 : Vec F S1x2x4096x128 .i8) (x7 : Vec F S1x2x4096 .f32)
    (M A : Vec F S16x128 .f32) : Vec F S16x128 .f32 :=
  two (hA a n (qlo x0) (zlo x5) (zlo x4) (clo x3) (wlo x7) (clo x6) (lo M) (lo A))
    (hA a n (qhi x0) (zhi x5) (zhi x4) (chi x3) (whi x7) (chi x6) (hi M) (hi A))

/-- The output block from the state after the last block and the new key and value rows. -/
def finO (x0 : Vec F S1x1x16x128 .bf16) (x1 x2 : Vec F S1x1x2x128 .bf16) (M L A : Vec F S16x128 .f32) :
    Vec F S1x1x16x128 .bf16 :=
  two4 (k0_pay29 (k0_pay28 (qlo x0) (nlo x1) (nlo x2) (lo M) (lo L) (lo A)))
    (k0_pay29 (k0_pay28 (qhi x0) (nhi x1) (nhi x2) (hi M) (hi L) (hi A)))

/-- The new value row's codes. -/
def vCodes (x2 : Vec F S1x1x2x128 .bf16) : Vec F S1x1x2x128 .i8 :=
  k0_pay7 (F := F) (k0_pay39 x2) (k0_pay40 x2) (k0_pay41 x2) (FloatOps.ofBits FTy.f32 1123942400#32)

/-- The new value row's scales. -/
def vScales (x2 : Vec F S1x1x2x128 .bf16) : Vec F S1x1x2 .f32 :=
  View.canon [(⟨Rect.unit ![0, 0, 1] ![1, 1, 1] inb_S1x1x2_S1x1x1_0_0_1,
          k0_pay9 (k0_pay40 x2) (k0_pay41 x2) (FloatOps.ofBits FTy.f32 1123942400#32)⟩ : View.Piece (Elt F) S1x1x2 .f32),
        ⟨Rect.unit ![0, 0, 0] ![1, 1, 1] inb_S1x1x2_S1x1x1_0_0_0,
          k0_pay8 (k0_pay40 x2) (k0_pay41 x2) (FloatOps.ofBits FTy.f32 1123942400#32)⟩]

/-- The length word a point reads from the table. -/
abbrev lenOf (c : Dev nD) (i : grid0.Coords) (xt0 : TbBuf0 (F := F) c tbM0_0) : BitVec 32 :=
  tbM0_0.view.readAt (Elt F) (Rect.unit (s := S4) (k0_off1 i) S1.size (k0_off1_inb i)).toLoadRect xt0
    (Shape.Idx.first (numel1_S1.symm ▸ Nat.one_pos))

/-- At the first block, live: the running maxima. -/
theorem sout0_A_0_eq (c : Dev nD) (i : grid0.Coords) (arg3 : Memref sig .tc .vmem S1x1x16x128 .bf16) (harg3 : arg3.IsWhole) (arg4 : Memref sig .tc .vmem S1x1x2x128 .bf16) (harg4 : arg4.IsWhole) (arg5 : Memref sig .tc .vmem S1x1x2x128 .bf16) (harg5 : arg5.IsWhole) (arg6 : Memref sig .tc .vmem S1x2x4096x128 .i8) (harg6 : arg6.IsWhole) (arg7 : Memref sig .tc .vmem S1x2x128 .f32) (harg7 : arg7.IsWhole) (arg8 : Memref sig .tc .vmem S1x2x128 .f32) (harg8 : arg8.IsWhole) (arg9 : Memref sig .tc .vmem S1x2x4096x128 .i8) (harg9 : arg9.IsWhole) (arg10 : Memref sig .tc .vmem S1x2x4096 .f32) (harg10 : arg10.IsWhole) (arg11 : Memref sig .tc .vmem S1x1x16x128 .bf16) (harg11 : arg11.IsWhole) (arg12 : Memref sig .tc .vmem S1x1x2x128 .i8) (harg12 : arg12.IsWhole) (arg13 : Memref sig .tc .vmem S1x1x2x128 .i8) (harg13 : arg13.IsWhole) (arg14 : Memref sig .tc .vmem S1x1x2 .f32) (harg14 : arg14.IsWhole) (arg15 : Memref sig .tc .vmem S16x128 .f32) (harg15 : arg15.IsWhole) (arg16 : Memref sig .tc .vmem S16x128 .f32) (harg16 : arg16.IsWhole) (arg17 : Memref sig .tc .vmem S16x128 .f32) (harg17 : arg17.IsWhole) (hc0 : cond0_0 i) (hc2 : ¬cond0_2 i)
    (x0 : Vec F S1x1x16x128 .bf16) (x1 : Vec F S1x1x2x128 .bf16) (x2 : Vec F S1x1x2x128 .bf16) (x3 : Vec F S1x2x4096x128 .i8) (x4 : Vec F S1x2x128 .f32) (x5 : Vec F S1x2x128 .f32) (x6 : Vec F S1x2x4096x128 .i8) (x7 : Vec F S1x2x4096 .f32) (xt0 : TbBuf0 (F := F) c tbM0_0) (hc1 : cond0_1 i (tbM0_0.view.readAt (Elt F) (Rect.unit (s := S4) (k0_off1 i) S1.size (k0_off1_inb i)).toLoadRect xt0 (Shape.Idx.first (numel1_S1.symm ▸ Nat.one_pos)))) :
    sout0_A_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 hc1 =
      newM (BitVec.ofNat 32 (i 1).val) (lenOf c i xt0) x0 x3 x4 x5 k0_pay1 := by
  funext y
  frame_open
  try simp (disch := decide) only [↓ View.readCov_skip, ↓ View.readCov_cons_toLoadRect, ↓ View.readCov_fill]
  try frame_out
  try simp only [read_unread_whole, Memref.IsWhole.read_unread]
  exact congrFun (canon_two _ _ _) y

/-- At the first block, live: the running sums. -/
theorem sout0_A_1_eq (c : Dev nD) (i : grid0.Coords) (arg3 : Memref sig .tc .vmem S1x1x16x128 .bf16) (harg3 : arg3.IsWhole) (arg4 : Memref sig .tc .vmem S1x1x2x128 .bf16) (harg4 : arg4.IsWhole) (arg5 : Memref sig .tc .vmem S1x1x2x128 .bf16) (harg5 : arg5.IsWhole) (arg6 : Memref sig .tc .vmem S1x2x4096x128 .i8) (harg6 : arg6.IsWhole) (arg7 : Memref sig .tc .vmem S1x2x128 .f32) (harg7 : arg7.IsWhole) (arg8 : Memref sig .tc .vmem S1x2x128 .f32) (harg8 : arg8.IsWhole) (arg9 : Memref sig .tc .vmem S1x2x4096x128 .i8) (harg9 : arg9.IsWhole) (arg10 : Memref sig .tc .vmem S1x2x4096 .f32) (harg10 : arg10.IsWhole) (arg11 : Memref sig .tc .vmem S1x1x16x128 .bf16) (harg11 : arg11.IsWhole) (arg12 : Memref sig .tc .vmem S1x1x2x128 .i8) (harg12 : arg12.IsWhole) (arg13 : Memref sig .tc .vmem S1x1x2x128 .i8) (harg13 : arg13.IsWhole) (arg14 : Memref sig .tc .vmem S1x1x2 .f32) (harg14 : arg14.IsWhole) (arg15 : Memref sig .tc .vmem S16x128 .f32) (harg15 : arg15.IsWhole) (arg16 : Memref sig .tc .vmem S16x128 .f32) (harg16 : arg16.IsWhole) (arg17 : Memref sig .tc .vmem S16x128 .f32) (harg17 : arg17.IsWhole) (hc0 : cond0_0 i) (hc2 : ¬cond0_2 i)
    (x0 : Vec F S1x1x16x128 .bf16) (x1 : Vec F S1x1x2x128 .bf16) (x2 : Vec F S1x1x2x128 .bf16) (x3 : Vec F S1x2x4096x128 .i8) (x4 : Vec F S1x2x128 .f32) (x5 : Vec F S1x2x128 .f32) (x6 : Vec F S1x2x4096x128 .i8) (x7 : Vec F S1x2x4096 .f32) (xt0 : TbBuf0 (F := F) c tbM0_0) (hc1 : cond0_1 i (tbM0_0.view.readAt (Elt F) (Rect.unit (s := S4) (k0_off1 i) S1.size (k0_off1_inb i)).toLoadRect xt0 (Shape.Idx.first (numel1_S1.symm ▸ Nat.one_pos)))) :
    sout0_A_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 hc1 =
      newL (BitVec.ofNat 32 (i 1).val) (lenOf c i xt0) x0 x3 x4 x5 k0_pay1 k0_pay2 := by
  funext y
  frame_open
  try simp (disch := decide) only [↓ View.readCov_skip, ↓ View.readCov_cons_toLoadRect, ↓ View.readCov_fill]
  try frame_out
  try simp only [read_unread_whole, Memref.IsWhole.read_unread]
  exact congrFun (canon_two _ _ _) y

/-- At the first block, live: the running weighted sums. -/
theorem sout0_A_2_eq (c : Dev nD) (i : grid0.Coords) (arg3 : Memref sig .tc .vmem S1x1x16x128 .bf16) (harg3 : arg3.IsWhole) (arg4 : Memref sig .tc .vmem S1x1x2x128 .bf16) (harg4 : arg4.IsWhole) (arg5 : Memref sig .tc .vmem S1x1x2x128 .bf16) (harg5 : arg5.IsWhole) (arg6 : Memref sig .tc .vmem S1x2x4096x128 .i8) (harg6 : arg6.IsWhole) (arg7 : Memref sig .tc .vmem S1x2x128 .f32) (harg7 : arg7.IsWhole) (arg8 : Memref sig .tc .vmem S1x2x128 .f32) (harg8 : arg8.IsWhole) (arg9 : Memref sig .tc .vmem S1x2x4096x128 .i8) (harg9 : arg9.IsWhole) (arg10 : Memref sig .tc .vmem S1x2x4096 .f32) (harg10 : arg10.IsWhole) (arg11 : Memref sig .tc .vmem S1x1x16x128 .bf16) (harg11 : arg11.IsWhole) (arg12 : Memref sig .tc .vmem S1x1x2x128 .i8) (harg12 : arg12.IsWhole) (arg13 : Memref sig .tc .vmem S1x1x2x128 .i8) (harg13 : arg13.IsWhole) (arg14 : Memref sig .tc .vmem S1x1x2 .f32) (harg14 : arg14.IsWhole) (arg15 : Memref sig .tc .vmem S16x128 .f32) (harg15 : arg15.IsWhole) (arg16 : Memref sig .tc .vmem S16x128 .f32) (harg16 : arg16.IsWhole) (arg17 : Memref sig .tc .vmem S16x128 .f32) (harg17 : arg17.IsWhole) (hc0 : cond0_0 i) (hc2 : ¬cond0_2 i)
    (x0 : Vec F S1x1x16x128 .bf16) (x1 : Vec F S1x1x2x128 .bf16) (x2 : Vec F S1x1x2x128 .bf16) (x3 : Vec F S1x2x4096x128 .i8) (x4 : Vec F S1x2x128 .f32) (x5 : Vec F S1x2x128 .f32) (x6 : Vec F S1x2x4096x128 .i8) (x7 : Vec F S1x2x4096 .f32) (xt0 : TbBuf0 (F := F) c tbM0_0) (hc1 : cond0_1 i (tbM0_0.view.readAt (Elt F) (Rect.unit (s := S4) (k0_off1 i) S1.size (k0_off1_inb i)).toLoadRect xt0 (Shape.Idx.first (numel1_S1.symm ▸ Nat.one_pos)))) :
    sout0_A_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 hc1 =
      newA (BitVec.ofNat 32 (i 1).val) (lenOf c i xt0) x0 x3 x4 x5 x6 x7 k0_pay1 k0_pay3 := by
  funext y
  frame_open
  try simp (disch := decide) only [↓ View.readCov_skip, ↓ View.readCov_cons_toLoadRect, ↓ View.readCov_fill]
  try frame_out
  try simp only [read_unread_whole, Memref.IsWhole.read_unread]
  exact congrFun (canon_two _ _ _) y

/-- At a middle block, live: the running maxima. -/
theorem sout0_C_0_eq (c : Dev nD) (i : grid0.Coords) (arg3 : Memref sig .tc .vmem S1x1x16x128 .bf16) (harg3 : arg3.IsWhole) (arg4 : Memref sig .tc .vmem S1x1x2x128 .bf16) (harg4 : arg4.IsWhole) (arg5 : Memref sig .tc .vmem S1x1x2x128 .bf16) (harg5 : arg5.IsWhole) (arg6 : Memref sig .tc .vmem S1x2x4096x128 .i8) (harg6 : arg6.IsWhole) (arg7 : Memref sig .tc .vmem S1x2x128 .f32) (harg7 : arg7.IsWhole) (arg8 : Memref sig .tc .vmem S1x2x128 .f32) (harg8 : arg8.IsWhole) (arg9 : Memref sig .tc .vmem S1x2x4096x128 .i8) (harg9 : arg9.IsWhole) (arg10 : Memref sig .tc .vmem S1x2x4096 .f32) (harg10 : arg10.IsWhole) (arg11 : Memref sig .tc .vmem S1x1x16x128 .bf16) (harg11 : arg11.IsWhole) (arg12 : Memref sig .tc .vmem S1x1x2x128 .i8) (harg12 : arg12.IsWhole) (arg13 : Memref sig .tc .vmem S1x1x2x128 .i8) (harg13 : arg13.IsWhole) (arg14 : Memref sig .tc .vmem S1x1x2 .f32) (harg14 : arg14.IsWhole) (arg15 : Memref sig .tc .vmem S16x128 .f32) (harg15 : arg15.IsWhole) (arg16 : Memref sig .tc .vmem S16x128 .f32) (harg16 : arg16.IsWhole) (arg17 : Memref sig .tc .vmem S16x128 .f32) (harg17 : arg17.IsWhole) (hc0 : ¬cond0_0 i) (hc2 : ¬cond0_2 i)
    (x0 : Vec F S1x1x16x128 .bf16) (x1 : Vec F S1x1x2x128 .bf16) (x2 : Vec F S1x1x2x128 .bf16) (x3 : Vec F S1x2x4096x128 .i8) (x4 : Vec F S1x2x128 .f32) (x5 : Vec F S1x2x128 .f32) (x6 : Vec F S1x2x4096x128 .i8) (x7 : Vec F S1x2x4096 .f32) (xt0 : TbBuf0 (F := F) c tbM0_0) (xs0 : Vec F S16x128 .f32) (xs1 : Vec F S16x128 .f32) (xs2 : Vec F S16x128 .f32) (hc1 : cond0_1 i (tbM0_0.view.readAt (Elt F) (Rect.unit (s := S4) (k0_off1 i) S1.size (k0_off1_inb i)).toLoadRect xt0 (Shape.Idx.first (numel1_S1.symm ▸ Nat.one_pos)))) :
    sout0_C_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xs0 xs1 xs2 hc1 =
      newM (BitVec.ofNat 32 (i 1).val) (lenOf c i xt0) x0 x3 x4 x5 xs0 := by
  funext y
  frame_open
  try simp (disch := decide) only [↓ View.readCov_skip, ↓ View.readCov_cons_toLoadRect, ↓ View.readCov_fill]
  try frame_out
  try simp only [read_unread_whole, Memref.IsWhole.read_unread]
  exact congrFun (canon_two _ _ _) y

/-- At a middle block, live: the running sums. -/
theorem sout0_C_1_eq (c : Dev nD) (i : grid0.Coords) (arg3 : Memref sig .tc .vmem S1x1x16x128 .bf16) (harg3 : arg3.IsWhole) (arg4 : Memref sig .tc .vmem S1x1x2x128 .bf16) (harg4 : arg4.IsWhole) (arg5 : Memref sig .tc .vmem S1x1x2x128 .bf16) (harg5 : arg5.IsWhole) (arg6 : Memref sig .tc .vmem S1x2x4096x128 .i8) (harg6 : arg6.IsWhole) (arg7 : Memref sig .tc .vmem S1x2x128 .f32) (harg7 : arg7.IsWhole) (arg8 : Memref sig .tc .vmem S1x2x128 .f32) (harg8 : arg8.IsWhole) (arg9 : Memref sig .tc .vmem S1x2x4096x128 .i8) (harg9 : arg9.IsWhole) (arg10 : Memref sig .tc .vmem S1x2x4096 .f32) (harg10 : arg10.IsWhole) (arg11 : Memref sig .tc .vmem S1x1x16x128 .bf16) (harg11 : arg11.IsWhole) (arg12 : Memref sig .tc .vmem S1x1x2x128 .i8) (harg12 : arg12.IsWhole) (arg13 : Memref sig .tc .vmem S1x1x2x128 .i8) (harg13 : arg13.IsWhole) (arg14 : Memref sig .tc .vmem S1x1x2 .f32) (harg14 : arg14.IsWhole) (arg15 : Memref sig .tc .vmem S16x128 .f32) (harg15 : arg15.IsWhole) (arg16 : Memref sig .tc .vmem S16x128 .f32) (harg16 : arg16.IsWhole) (arg17 : Memref sig .tc .vmem S16x128 .f32) (harg17 : arg17.IsWhole) (hc0 : ¬cond0_0 i) (hc2 : ¬cond0_2 i)
    (x0 : Vec F S1x1x16x128 .bf16) (x1 : Vec F S1x1x2x128 .bf16) (x2 : Vec F S1x1x2x128 .bf16) (x3 : Vec F S1x2x4096x128 .i8) (x4 : Vec F S1x2x128 .f32) (x5 : Vec F S1x2x128 .f32) (x6 : Vec F S1x2x4096x128 .i8) (x7 : Vec F S1x2x4096 .f32) (xt0 : TbBuf0 (F := F) c tbM0_0) (xs0 : Vec F S16x128 .f32) (xs1 : Vec F S16x128 .f32) (xs2 : Vec F S16x128 .f32) (hc1 : cond0_1 i (tbM0_0.view.readAt (Elt F) (Rect.unit (s := S4) (k0_off1 i) S1.size (k0_off1_inb i)).toLoadRect xt0 (Shape.Idx.first (numel1_S1.symm ▸ Nat.one_pos)))) :
    sout0_C_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xs0 xs1 xs2 hc1 =
      newL (BitVec.ofNat 32 (i 1).val) (lenOf c i xt0) x0 x3 x4 x5 xs0 xs1 := by
  funext y
  frame_open
  try simp (disch := decide) only [↓ View.readCov_skip, ↓ View.readCov_cons_toLoadRect, ↓ View.readCov_fill]
  try frame_out
  try simp only [read_unread_whole, Memref.IsWhole.read_unread]
  exact congrFun (canon_two _ _ _) y

/-- At a middle block, live: the running weighted sums. -/
theorem sout0_C_2_eq (c : Dev nD) (i : grid0.Coords) (arg3 : Memref sig .tc .vmem S1x1x16x128 .bf16) (harg3 : arg3.IsWhole) (arg4 : Memref sig .tc .vmem S1x1x2x128 .bf16) (harg4 : arg4.IsWhole) (arg5 : Memref sig .tc .vmem S1x1x2x128 .bf16) (harg5 : arg5.IsWhole) (arg6 : Memref sig .tc .vmem S1x2x4096x128 .i8) (harg6 : arg6.IsWhole) (arg7 : Memref sig .tc .vmem S1x2x128 .f32) (harg7 : arg7.IsWhole) (arg8 : Memref sig .tc .vmem S1x2x128 .f32) (harg8 : arg8.IsWhole) (arg9 : Memref sig .tc .vmem S1x2x4096x128 .i8) (harg9 : arg9.IsWhole) (arg10 : Memref sig .tc .vmem S1x2x4096 .f32) (harg10 : arg10.IsWhole) (arg11 : Memref sig .tc .vmem S1x1x16x128 .bf16) (harg11 : arg11.IsWhole) (arg12 : Memref sig .tc .vmem S1x1x2x128 .i8) (harg12 : arg12.IsWhole) (arg13 : Memref sig .tc .vmem S1x1x2x128 .i8) (harg13 : arg13.IsWhole) (arg14 : Memref sig .tc .vmem S1x1x2 .f32) (harg14 : arg14.IsWhole) (arg15 : Memref sig .tc .vmem S16x128 .f32) (harg15 : arg15.IsWhole) (arg16 : Memref sig .tc .vmem S16x128 .f32) (harg16 : arg16.IsWhole) (arg17 : Memref sig .tc .vmem S16x128 .f32) (harg17 : arg17.IsWhole) (hc0 : ¬cond0_0 i) (hc2 : ¬cond0_2 i)
    (x0 : Vec F S1x1x16x128 .bf16) (x1 : Vec F S1x1x2x128 .bf16) (x2 : Vec F S1x1x2x128 .bf16) (x3 : Vec F S1x2x4096x128 .i8) (x4 : Vec F S1x2x128 .f32) (x5 : Vec F S1x2x128 .f32) (x6 : Vec F S1x2x4096x128 .i8) (x7 : Vec F S1x2x4096 .f32) (xt0 : TbBuf0 (F := F) c tbM0_0) (xs0 : Vec F S16x128 .f32) (xs1 : Vec F S16x128 .f32) (xs2 : Vec F S16x128 .f32) (hc1 : cond0_1 i (tbM0_0.view.readAt (Elt F) (Rect.unit (s := S4) (k0_off1 i) S1.size (k0_off1_inb i)).toLoadRect xt0 (Shape.Idx.first (numel1_S1.symm ▸ Nat.one_pos)))) :
    sout0_C_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xs0 xs1 xs2 hc1 =
      newA (BitVec.ofNat 32 (i 1).val) (lenOf c i xt0) x0 x3 x4 x5 x6 x7 xs0 xs2 := by
  funext y
  frame_open
  try simp (disch := decide) only [↓ View.readCov_skip, ↓ View.readCov_cons_toLoadRect, ↓ View.readCov_fill]
  try frame_out
  try simp only [read_unread_whole, Memref.IsWhole.read_unread]
  exact congrFun (canon_two _ _ _) y

/-- At the first block, past the length: the running maxima. -/
theorem sout0_B_0_eq (c : Dev nD) (i : grid0.Coords) (arg3 : Memref sig .tc .vmem S1x1x16x128 .bf16) (harg3 : arg3.IsWhole) (arg4 : Memref sig .tc .vmem S1x1x2x128 .bf16) (harg4 : arg4.IsWhole) (arg5 : Memref sig .tc .vmem S1x1x2x128 .bf16) (harg5 : arg5.IsWhole) (arg6 : Memref sig .tc .vmem S1x2x4096x128 .i8) (harg6 : arg6.IsWhole) (arg7 : Memref sig .tc .vmem S1x2x128 .f32) (harg7 : arg7.IsWhole) (arg8 : Memref sig .tc .vmem S1x2x128 .f32) (harg8 : arg8.IsWhole) (arg9 : Memref sig .tc .vmem S1x2x4096x128 .i8) (harg9 : arg9.IsWhole) (arg10 : Memref sig .tc .vmem S1x2x4096 .f32) (harg10 : arg10.IsWhole) (arg11 : Memref sig .tc .vmem S1x1x16x128 .bf16) (harg11 : arg11.IsWhole) (arg12 : Memref sig .tc .vmem S1x1x2x128 .i8) (harg12 : arg12.IsWhole) (arg13 : Memref sig .tc .vmem S1x1x2x128 .i8) (harg13 : arg13.IsWhole) (arg14 : Memref sig .tc .vmem S1x1x2 .f32) (harg14 : arg14.IsWhole) (arg15 : Memref sig .tc .vmem S16x128 .f32) (harg15 : arg15.IsWhole) (arg16 : Memref sig .tc .vmem S16x128 .f32) (harg16 : arg16.IsWhole) (arg17 : Memref sig .tc .vmem S16x128 .f32) (harg17 : arg17.IsWhole) (hc0 : cond0_0 i) (hc2 : ¬cond0_2 i)
    (x0 : Vec F S1x1x16x128 .bf16) (x1 : Vec F S1x1x2x128 .bf16) (x2 : Vec F S1x1x2x128 .bf16) (x3 : Vec F S1x2x4096x128 .i8) (x4 : Vec F S1x2x128 .f32) (x5 : Vec F S1x2x128 .f32) (x6 : Vec F S1x2x4096x128 .i8) (x7 : Vec F S1x2x4096 .f32) (xt0 : TbBuf0 (F := F) c tbM0_0) (hc1 : ¬cond0_1 i (tbM0_0.view.readAt (Elt F) (Rect.unit (s := S4) (k0_off1 i) S1.size (k0_off1_inb i)).toLoadRect xt0 (Shape.Idx.first (numel1_S1.symm ▸ Nat.one_pos)))) :
    sout0_B_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 hc1 =
      k0_pay1 := by
  funext y
  frame_open
  try simp (disch := decide) only [↓ View.readCov_skip, ↓ View.readCov_cons_toLoadRect, ↓ View.readCov_fill]
  try frame_out
  try simp only [read_unread_whole, Memref.IsWhole.read_unread]
  try rfl

/-- At the first block, past the length: the running sums. -/
theorem sout0_B_1_eq (c : Dev nD) (i : grid0.Coords) (arg3 : Memref sig .tc .vmem S1x1x16x128 .bf16) (harg3 : arg3.IsWhole) (arg4 : Memref sig .tc .vmem S1x1x2x128 .bf16) (harg4 : arg4.IsWhole) (arg5 : Memref sig .tc .vmem S1x1x2x128 .bf16) (harg5 : arg5.IsWhole) (arg6 : Memref sig .tc .vmem S1x2x4096x128 .i8) (harg6 : arg6.IsWhole) (arg7 : Memref sig .tc .vmem S1x2x128 .f32) (harg7 : arg7.IsWhole) (arg8 : Memref sig .tc .vmem S1x2x128 .f32) (harg8 : arg8.IsWhole) (arg9 : Memref sig .tc .vmem S1x2x4096x128 .i8) (harg9 : arg9.IsWhole) (arg10 : Memref sig .tc .vmem S1x2x4096 .f32) (harg10 : arg10.IsWhole) (arg11 : Memref sig .tc .vmem S1x1x16x128 .bf16) (harg11 : arg11.IsWhole) (arg12 : Memref sig .tc .vmem S1x1x2x128 .i8) (harg12 : arg12.IsWhole) (arg13 : Memref sig .tc .vmem S1x1x2x128 .i8) (harg13 : arg13.IsWhole) (arg14 : Memref sig .tc .vmem S1x1x2 .f32) (harg14 : arg14.IsWhole) (arg15 : Memref sig .tc .vmem S16x128 .f32) (harg15 : arg15.IsWhole) (arg16 : Memref sig .tc .vmem S16x128 .f32) (harg16 : arg16.IsWhole) (arg17 : Memref sig .tc .vmem S16x128 .f32) (harg17 : arg17.IsWhole) (hc0 : cond0_0 i) (hc2 : ¬cond0_2 i)
    (x0 : Vec F S1x1x16x128 .bf16) (x1 : Vec F S1x1x2x128 .bf16) (x2 : Vec F S1x1x2x128 .bf16) (x3 : Vec F S1x2x4096x128 .i8) (x4 : Vec F S1x2x128 .f32) (x5 : Vec F S1x2x128 .f32) (x6 : Vec F S1x2x4096x128 .i8) (x7 : Vec F S1x2x4096 .f32) (xt0 : TbBuf0 (F := F) c tbM0_0) (hc1 : ¬cond0_1 i (tbM0_0.view.readAt (Elt F) (Rect.unit (s := S4) (k0_off1 i) S1.size (k0_off1_inb i)).toLoadRect xt0 (Shape.Idx.first (numel1_S1.symm ▸ Nat.one_pos)))) :
    sout0_B_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 hc1 =
      k0_pay2 := by
  funext y
  frame_open
  try simp (disch := decide) only [↓ View.readCov_skip, ↓ View.readCov_cons_toLoadRect, ↓ View.readCov_fill]
  try frame_out
  try simp only [read_unread_whole, Memref.IsWhole.read_unread]
  try rfl

/-- At the first block, past the length: the running weighted sums. -/
theorem sout0_B_2_eq (c : Dev nD) (i : grid0.Coords) (arg3 : Memref sig .tc .vmem S1x1x16x128 .bf16) (harg3 : arg3.IsWhole) (arg4 : Memref sig .tc .vmem S1x1x2x128 .bf16) (harg4 : arg4.IsWhole) (arg5 : Memref sig .tc .vmem S1x1x2x128 .bf16) (harg5 : arg5.IsWhole) (arg6 : Memref sig .tc .vmem S1x2x4096x128 .i8) (harg6 : arg6.IsWhole) (arg7 : Memref sig .tc .vmem S1x2x128 .f32) (harg7 : arg7.IsWhole) (arg8 : Memref sig .tc .vmem S1x2x128 .f32) (harg8 : arg8.IsWhole) (arg9 : Memref sig .tc .vmem S1x2x4096x128 .i8) (harg9 : arg9.IsWhole) (arg10 : Memref sig .tc .vmem S1x2x4096 .f32) (harg10 : arg10.IsWhole) (arg11 : Memref sig .tc .vmem S1x1x16x128 .bf16) (harg11 : arg11.IsWhole) (arg12 : Memref sig .tc .vmem S1x1x2x128 .i8) (harg12 : arg12.IsWhole) (arg13 : Memref sig .tc .vmem S1x1x2x128 .i8) (harg13 : arg13.IsWhole) (arg14 : Memref sig .tc .vmem S1x1x2 .f32) (harg14 : arg14.IsWhole) (arg15 : Memref sig .tc .vmem S16x128 .f32) (harg15 : arg15.IsWhole) (arg16 : Memref sig .tc .vmem S16x128 .f32) (harg16 : arg16.IsWhole) (arg17 : Memref sig .tc .vmem S16x128 .f32) (harg17 : arg17.IsWhole) (hc0 : cond0_0 i) (hc2 : ¬cond0_2 i)
    (x0 : Vec F S1x1x16x128 .bf16) (x1 : Vec F S1x1x2x128 .bf16) (x2 : Vec F S1x1x2x128 .bf16) (x3 : Vec F S1x2x4096x128 .i8) (x4 : Vec F S1x2x128 .f32) (x5 : Vec F S1x2x128 .f32) (x6 : Vec F S1x2x4096x128 .i8) (x7 : Vec F S1x2x4096 .f32) (xt0 : TbBuf0 (F := F) c tbM0_0) (hc1 : ¬cond0_1 i (tbM0_0.view.readAt (Elt F) (Rect.unit (s := S4) (k0_off1 i) S1.size (k0_off1_inb i)).toLoadRect xt0 (Shape.Idx.first (numel1_S1.symm ▸ Nat.one_pos)))) :
    sout0_B_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 hc1 =
      k0_pay3 := by
  funext y
  frame_open
  try simp (disch := decide) only [↓ View.readCov_skip, ↓ View.readCov_cons_toLoadRect, ↓ View.readCov_fill]
  try frame_out
  try simp only [read_unread_whole, Memref.IsWhole.read_unread]
  try rfl

/-- At the last block, live: the output block. -/
theorem out0_E_8_eq (c : Dev nD) (i : grid0.Coords) (arg3 : Memref sig .tc .vmem S1x1x16x128 .bf16) (harg3 : arg3.IsWhole) (arg4 : Memref sig .tc .vmem S1x1x2x128 .bf16) (harg4 : arg4.IsWhole) (arg5 : Memref sig .tc .vmem S1x1x2x128 .bf16) (harg5 : arg5.IsWhole) (arg6 : Memref sig .tc .vmem S1x2x4096x128 .i8) (harg6 : arg6.IsWhole) (arg7 : Memref sig .tc .vmem S1x2x128 .f32) (harg7 : arg7.IsWhole) (arg8 : Memref sig .tc .vmem S1x2x128 .f32) (harg8 : arg8.IsWhole) (arg9 : Memref sig .tc .vmem S1x2x4096x128 .i8) (harg9 : arg9.IsWhole) (arg10 : Memref sig .tc .vmem S1x2x4096 .f32) (harg10 : arg10.IsWhole) (arg11 : Memref sig .tc .vmem S1x1x16x128 .bf16) (harg11 : arg11.IsWhole) (arg12 : Memref sig .tc .vmem S1x1x2x128 .i8) (harg12 : arg12.IsWhole) (arg13 : Memref sig .tc .vmem S1x1x2x128 .i8) (harg13 : arg13.IsWhole) (arg14 : Memref sig .tc .vmem S1x1x2 .f32) (harg14 : arg14.IsWhole) (arg15 : Memref sig .tc .vmem S16x128 .f32) (harg15 : arg15.IsWhole) (arg16 : Memref sig .tc .vmem S16x128 .f32) (harg16 : arg16.IsWhole) (arg17 : Memref sig .tc .vmem S16x128 .f32) (harg17 : arg17.IsWhole) (hc0 : ¬cond0_0 i) (hc2 : cond0_2 i)
    (x0 : Vec F S1x1x16x128 .bf16) (x1 : Vec F S1x1x2x128 .bf16) (x2 : Vec F S1x1x2x128 .bf16) (x3 : Vec F S1x2x4096x128 .i8) (x4 : Vec F S1x2x128 .f32) (x5 : Vec F S1x2x128 .f32) (x6 : Vec F S1x2x4096x128 .i8) (x7 : Vec F S1x2x4096 .f32) (xt0 : TbBuf0 (F := F) c tbM0_0) (xs0 : Vec F S16x128 .f32) (xs1 : Vec F S16x128 .f32) (xs2 : Vec F S16x128 .f32) (hc1 : cond0_1 i (tbM0_0.view.readAt (Elt F) (Rect.unit (s := S4) (k0_off1 i) S1.size (k0_off1_inb i)).toLoadRect xt0 (Shape.Idx.first (numel1_S1.symm ▸ Nat.one_pos)))) :
    out0_E_8 c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xs0 xs1 xs2 hc1 =
      finO x0 x1 x2 (newM (BitVec.ofNat 32 (i 1).val) (lenOf c i xt0) x0 x3 x4 x5 xs0) (newL (BitVec.ofNat 32 (i 1).val) (lenOf c i xt0) x0 x3 x4 x5 xs0 xs1) (newA (BitVec.ofNat 32 (i 1).val) (lenOf c i xt0) x0 x3 x4 x5 x6 x7 xs0 xs2) := by
  funext y
  frame_open
  try simp (disch := decide) only [↓ View.readCov_skip, ↓ View.readCov_cons_toLoadRect, ↓ View.readCov_fill]
  try frame_out
  try simp only [read_unread_whole, Memref.IsWhole.read_unread]
  unfold finO newM newL newA
  rw [lo_two, hi_two, lo_two, hi_two, lo_two, hi_two]
  exact congrFun (canon_two4 _ _) y

/-- At the last block, past the length: the output block. -/
theorem out0_F_8_eq (c : Dev nD) (i : grid0.Coords) (arg3 : Memref sig .tc .vmem S1x1x16x128 .bf16) (harg3 : arg3.IsWhole) (arg4 : Memref sig .tc .vmem S1x1x2x128 .bf16) (harg4 : arg4.IsWhole) (arg5 : Memref sig .tc .vmem S1x1x2x128 .bf16) (harg5 : arg5.IsWhole) (arg6 : Memref sig .tc .vmem S1x2x4096x128 .i8) (harg6 : arg6.IsWhole) (arg7 : Memref sig .tc .vmem S1x2x128 .f32) (harg7 : arg7.IsWhole) (arg8 : Memref sig .tc .vmem S1x2x128 .f32) (harg8 : arg8.IsWhole) (arg9 : Memref sig .tc .vmem S1x2x4096x128 .i8) (harg9 : arg9.IsWhole) (arg10 : Memref sig .tc .vmem S1x2x4096 .f32) (harg10 : arg10.IsWhole) (arg11 : Memref sig .tc .vmem S1x1x16x128 .bf16) (harg11 : arg11.IsWhole) (arg12 : Memref sig .tc .vmem S1x1x2x128 .i8) (harg12 : arg12.IsWhole) (arg13 : Memref sig .tc .vmem S1x1x2x128 .i8) (harg13 : arg13.IsWhole) (arg14 : Memref sig .tc .vmem S1x1x2 .f32) (harg14 : arg14.IsWhole) (arg15 : Memref sig .tc .vmem S16x128 .f32) (harg15 : arg15.IsWhole) (arg16 : Memref sig .tc .vmem S16x128 .f32) (harg16 : arg16.IsWhole) (arg17 : Memref sig .tc .vmem S16x128 .f32) (harg17 : arg17.IsWhole) (hc0 : ¬cond0_0 i) (hc2 : cond0_2 i)
    (x0 : Vec F S1x1x16x128 .bf16) (x1 : Vec F S1x1x2x128 .bf16) (x2 : Vec F S1x1x2x128 .bf16) (x3 : Vec F S1x2x4096x128 .i8) (x4 : Vec F S1x2x128 .f32) (x5 : Vec F S1x2x128 .f32) (x6 : Vec F S1x2x4096x128 .i8) (x7 : Vec F S1x2x4096 .f32) (xt0 : TbBuf0 (F := F) c tbM0_0) (xs0 : Vec F S16x128 .f32) (xs1 : Vec F S16x128 .f32) (xs2 : Vec F S16x128 .f32) (hc1 : ¬cond0_1 i (tbM0_0.view.readAt (Elt F) (Rect.unit (s := S4) (k0_off1 i) S1.size (k0_off1_inb i)).toLoadRect xt0 (Shape.Idx.first (numel1_S1.symm ▸ Nat.one_pos)))) :
    out0_F_8 c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xs0 xs1 xs2 hc1 =
      finO x0 x1 x2 xs0 xs1 xs2 := by
  funext y
  frame_open
  try simp (disch := decide) only [↓ View.readCov_skip, ↓ View.readCov_cons_toLoadRect, ↓ View.readCov_fill]
  try frame_out
  try simp only [read_unread_whole, Memref.IsWhole.read_unread]
  exact congrFun (canon_two4 _ _) y

/-- At the last block, live: the key codes. -/
theorem out0_E_9_eq (c : Dev nD) (i : grid0.Coords) (arg3 : Memref sig .tc .vmem S1x1x16x128 .bf16) (harg3 : arg3.IsWhole) (arg4 : Memref sig .tc .vmem S1x1x2x128 .bf16) (harg4 : arg4.IsWhole) (arg5 : Memref sig .tc .vmem S1x1x2x128 .bf16) (harg5 : arg5.IsWhole) (arg6 : Memref sig .tc .vmem S1x2x4096x128 .i8) (harg6 : arg6.IsWhole) (arg7 : Memref sig .tc .vmem S1x2x128 .f32) (harg7 : arg7.IsWhole) (arg8 : Memref sig .tc .vmem S1x2x128 .f32) (harg8 : arg8.IsWhole) (arg9 : Memref sig .tc .vmem S1x2x4096x128 .i8) (harg9 : arg9.IsWhole) (arg10 : Memref sig .tc .vmem S1x2x4096 .f32) (harg10 : arg10.IsWhole) (arg11 : Memref sig .tc .vmem S1x1x16x128 .bf16) (harg11 : arg11.IsWhole) (arg12 : Memref sig .tc .vmem S1x1x2x128 .i8) (harg12 : arg12.IsWhole) (arg13 : Memref sig .tc .vmem S1x1x2x128 .i8) (harg13 : arg13.IsWhole) (arg14 : Memref sig .tc .vmem S1x1x2 .f32) (harg14 : arg14.IsWhole) (arg15 : Memref sig .tc .vmem S16x128 .f32) (harg15 : arg15.IsWhole) (arg16 : Memref sig .tc .vmem S16x128 .f32) (harg16 : arg16.IsWhole) (arg17 : Memref sig .tc .vmem S16x128 .f32) (harg17 : arg17.IsWhole) (hc0 : ¬cond0_0 i) (hc2 : cond0_2 i)
    (x0 : Vec F S1x1x16x128 .bf16) (x1 : Vec F S1x1x2x128 .bf16) (x2 : Vec F S1x1x2x128 .bf16) (x3 : Vec F S1x2x4096x128 .i8) (x4 : Vec F S1x2x128 .f32) (x5 : Vec F S1x2x128 .f32) (x6 : Vec F S1x2x4096x128 .i8) (x7 : Vec F S1x2x4096 .f32) (xt0 : TbBuf0 (F := F) c tbM0_0) (xs0 : Vec F S16x128 .f32) (xs1 : Vec F S16x128 .f32) (xs2 : Vec F S16x128 .f32) (hc1 : cond0_1 i (tbM0_0.view.readAt (Elt F) (Rect.unit (s := S4) (k0_off1 i) S1.size (k0_off1_inb i)).toLoadRect xt0 (Shape.Idx.first (numel1_S1.symm ▸ Nat.one_pos)))) :
    out0_E_9 c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xs0 xs1 xs2 hc1 =
      k0_pay38 (F := F) x1 x4 x5 := by
  funext y
  frame_open
  try simp (disch := decide) only [↓ View.readCov_skip, ↓ View.readCov_cons_toLoadRect, ↓ View.readCov_fill]
  try frame_out
  try simp only [read_unread_whole, Memref.IsWhole.read_unread]
  try rfl

/-- At the last block, live: the value codes. -/
theorem out0_E_10_eq (c : Dev nD) (i : grid0.Coords) (arg3 : Memref sig .tc .vmem S1x1x16x128 .bf16) (harg3 : arg3.IsWhole) (arg4 : Memref sig .tc .vmem S1x1x2x128 .bf16) (harg4 : arg4.IsWhole) (arg5 : Memref sig .tc .vmem S1x1x2x128 .bf16) (harg5 : arg5.IsWhole) (arg6 : Memref sig .tc .vmem S1x2x4096x128 .i8) (harg6 : arg6.IsWhole) (arg7 : Memref sig .tc .vmem S1x2x128 .f32) (harg7 : arg7.IsWhole) (arg8 : Memref sig .tc .vmem S1x2x128 .f32) (harg8 : arg8.IsWhole) (arg9 : Memref sig .tc .vmem S1x2x4096x128 .i8) (harg9 : arg9.IsWhole) (arg10 : Memref sig .tc .vmem S1x2x4096 .f32) (harg10 : arg10.IsWhole) (arg11 : Memref sig .tc .vmem S1x1x16x128 .bf16) (harg11 : arg11.IsWhole) (arg12 : Memref sig .tc .vmem S1x1x2x128 .i8) (harg12 : arg12.IsWhole) (arg13 : Memref sig .tc .vmem S1x1x2x128 .i8) (harg13 : arg13.IsWhole) (arg14 : Memref sig .tc .vmem S1x1x2 .f32) (harg14 : arg14.IsWhole) (arg15 : Memref sig .tc .vmem S16x128 .f32) (harg15 : arg15.IsWhole) (arg16 : Memref sig .tc .vmem S16x128 .f32) (harg16 : arg16.IsWhole) (arg17 : Memref sig .tc .vmem S16x128 .f32) (harg17 : arg17.IsWhole) (hc0 : ¬cond0_0 i) (hc2 : cond0_2 i)
    (x0 : Vec F S1x1x16x128 .bf16) (x1 : Vec F S1x1x2x128 .bf16) (x2 : Vec F S1x1x2x128 .bf16) (x3 : Vec F S1x2x4096x128 .i8) (x4 : Vec F S1x2x128 .f32) (x5 : Vec F S1x2x128 .f32) (x6 : Vec F S1x2x4096x128 .i8) (x7 : Vec F S1x2x4096 .f32) (xt0 : TbBuf0 (F := F) c tbM0_0) (xs0 : Vec F S16x128 .f32) (xs1 : Vec F S16x128 .f32) (xs2 : Vec F S16x128 .f32) (hc1 : cond0_1 i (tbM0_0.view.readAt (Elt F) (Rect.unit (s := S4) (k0_off1 i) S1.size (k0_off1_inb i)).toLoadRect xt0 (Shape.Idx.first (numel1_S1.symm ▸ Nat.one_pos)))) :
    out0_E_10 c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xs0 xs1 xs2 hc1 =
      vCodes x2 := by
  funext y
  frame_open
  try simp (disch := decide) only [↓ View.readCov_skip, ↓ View.readCov_cons_toLoadRect, ↓ View.readCov_fill]
  try frame_out
  try simp only [read_unread_whole, Memref.IsWhole.read_unread]
  try rfl

/-- At the last block, live: the value scales. -/
theorem out0_E_11_eq (c : Dev nD) (i : grid0.Coords) (arg3 : Memref sig .tc .vmem S1x1x16x128 .bf16) (harg3 : arg3.IsWhole) (arg4 : Memref sig .tc .vmem S1x1x2x128 .bf16) (harg4 : arg4.IsWhole) (arg5 : Memref sig .tc .vmem S1x1x2x128 .bf16) (harg5 : arg5.IsWhole) (arg6 : Memref sig .tc .vmem S1x2x4096x128 .i8) (harg6 : arg6.IsWhole) (arg7 : Memref sig .tc .vmem S1x2x128 .f32) (harg7 : arg7.IsWhole) (arg8 : Memref sig .tc .vmem S1x2x128 .f32) (harg8 : arg8.IsWhole) (arg9 : Memref sig .tc .vmem S1x2x4096x128 .i8) (harg9 : arg9.IsWhole) (arg10 : Memref sig .tc .vmem S1x2x4096 .f32) (harg10 : arg10.IsWhole) (arg11 : Memref sig .tc .vmem S1x1x16x128 .bf16) (harg11 : arg11.IsWhole) (arg12 : Memref sig .tc .vmem S1x1x2x128 .i8) (harg12 : arg12.IsWhole) (arg13 : Memref sig .tc .vmem S1x1x2x128 .i8) (harg13 : arg13.IsWhole) (arg14 : Memref sig .tc .vmem S1x1x2 .f32) (harg14 : arg14.IsWhole) (arg15 : Memref sig .tc .vmem S16x128 .f32) (harg15 : arg15.IsWhole) (arg16 : Memref sig .tc .vmem S16x128 .f32) (harg16 : arg16.IsWhole) (arg17 : Memref sig .tc .vmem S16x128 .f32) (harg17 : arg17.IsWhole) (hc0 : ¬cond0_0 i) (hc2 : cond0_2 i)
    (x0 : Vec F S1x1x16x128 .bf16) (x1 : Vec F S1x1x2x128 .bf16) (x2 : Vec F S1x1x2x128 .bf16) (x3 : Vec F S1x2x4096x128 .i8) (x4 : Vec F S1x2x128 .f32) (x5 : Vec F S1x2x128 .f32) (x6 : Vec F S1x2x4096x128 .i8) (x7 : Vec F S1x2x4096 .f32) (xt0 : TbBuf0 (F := F) c tbM0_0) (xs0 : Vec F S16x128 .f32) (xs1 : Vec F S16x128 .f32) (xs2 : Vec F S16x128 .f32) (hc1 : cond0_1 i (tbM0_0.view.readAt (Elt F) (Rect.unit (s := S4) (k0_off1 i) S1.size (k0_off1_inb i)).toLoadRect xt0 (Shape.Idx.first (numel1_S1.symm ▸ Nat.one_pos)))) :
    out0_E_11 c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xs0 xs1 xs2 hc1 =
      vScales x2 := by
  funext y
  frame_open
  try simp (disch := decide) only [↓ View.readCov_skip, ↓ View.readCov_cons_toLoadRect, ↓ View.readCov_fill]
  try frame_out
  try simp only [read_unread_whole, Memref.IsWhole.read_unread]
  try rfl

/-- At the last block, past the length: the key codes. -/
theorem out0_F_9_eq (c : Dev nD) (i : grid0.Coords) (arg3 : Memref sig .tc .vmem S1x1x16x128 .bf16) (harg3 : arg3.IsWhole) (arg4 : Memref sig .tc .vmem S1x1x2x128 .bf16) (harg4 : arg4.IsWhole) (arg5 : Memref sig .tc .vmem S1x1x2x128 .bf16) (harg5 : arg5.IsWhole) (arg6 : Memref sig .tc .vmem S1x2x4096x128 .i8) (harg6 : arg6.IsWhole) (arg7 : Memref sig .tc .vmem S1x2x128 .f32) (harg7 : arg7.IsWhole) (arg8 : Memref sig .tc .vmem S1x2x128 .f32) (harg8 : arg8.IsWhole) (arg9 : Memref sig .tc .vmem S1x2x4096x128 .i8) (harg9 : arg9.IsWhole) (arg10 : Memref sig .tc .vmem S1x2x4096 .f32) (harg10 : arg10.IsWhole) (arg11 : Memref sig .tc .vmem S1x1x16x128 .bf16) (harg11 : arg11.IsWhole) (arg12 : Memref sig .tc .vmem S1x1x2x128 .i8) (harg12 : arg12.IsWhole) (arg13 : Memref sig .tc .vmem S1x1x2x128 .i8) (harg13 : arg13.IsWhole) (arg14 : Memref sig .tc .vmem S1x1x2 .f32) (harg14 : arg14.IsWhole) (arg15 : Memref sig .tc .vmem S16x128 .f32) (harg15 : arg15.IsWhole) (arg16 : Memref sig .tc .vmem S16x128 .f32) (harg16 : arg16.IsWhole) (arg17 : Memref sig .tc .vmem S16x128 .f32) (harg17 : arg17.IsWhole) (hc0 : ¬cond0_0 i) (hc2 : cond0_2 i)
    (x0 : Vec F S1x1x16x128 .bf16) (x1 : Vec F S1x1x2x128 .bf16) (x2 : Vec F S1x1x2x128 .bf16) (x3 : Vec F S1x2x4096x128 .i8) (x4 : Vec F S1x2x128 .f32) (x5 : Vec F S1x2x128 .f32) (x6 : Vec F S1x2x4096x128 .i8) (x7 : Vec F S1x2x4096 .f32) (xt0 : TbBuf0 (F := F) c tbM0_0) (xs0 : Vec F S16x128 .f32) (xs1 : Vec F S16x128 .f32) (xs2 : Vec F S16x128 .f32) (hc1 : ¬cond0_1 i (tbM0_0.view.readAt (Elt F) (Rect.unit (s := S4) (k0_off1 i) S1.size (k0_off1_inb i)).toLoadRect xt0 (Shape.Idx.first (numel1_S1.symm ▸ Nat.one_pos)))) :
    out0_F_9 c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xs0 xs1 xs2 hc1 =
      k0_pay38 (F := F) x1 x4 x5 := by
  funext y
  frame_open
  try simp (disch := decide) only [↓ View.readCov_skip, ↓ View.readCov_cons_toLoadRect, ↓ View.readCov_fill]
  try frame_out
  try simp only [read_unread_whole, Memref.IsWhole.read_unread]
  try rfl

/-- At the last block, past the length: the value codes. -/
theorem out0_F_10_eq (c : Dev nD) (i : grid0.Coords) (arg3 : Memref sig .tc .vmem S1x1x16x128 .bf16) (harg3 : arg3.IsWhole) (arg4 : Memref sig .tc .vmem S1x1x2x128 .bf16) (harg4 : arg4.IsWhole) (arg5 : Memref sig .tc .vmem S1x1x2x128 .bf16) (harg5 : arg5.IsWhole) (arg6 : Memref sig .tc .vmem S1x2x4096x128 .i8) (harg6 : arg6.IsWhole) (arg7 : Memref sig .tc .vmem S1x2x128 .f32) (harg7 : arg7.IsWhole) (arg8 : Memref sig .tc .vmem S1x2x128 .f32) (harg8 : arg8.IsWhole) (arg9 : Memref sig .tc .vmem S1x2x4096x128 .i8) (harg9 : arg9.IsWhole) (arg10 : Memref sig .tc .vmem S1x2x4096 .f32) (harg10 : arg10.IsWhole) (arg11 : Memref sig .tc .vmem S1x1x16x128 .bf16) (harg11 : arg11.IsWhole) (arg12 : Memref sig .tc .vmem S1x1x2x128 .i8) (harg12 : arg12.IsWhole) (arg13 : Memref sig .tc .vmem S1x1x2x128 .i8) (harg13 : arg13.IsWhole) (arg14 : Memref sig .tc .vmem S1x1x2 .f32) (harg14 : arg14.IsWhole) (arg15 : Memref sig .tc .vmem S16x128 .f32) (harg15 : arg15.IsWhole) (arg16 : Memref sig .tc .vmem S16x128 .f32) (harg16 : arg16.IsWhole) (arg17 : Memref sig .tc .vmem S16x128 .f32) (harg17 : arg17.IsWhole) (hc0 : ¬cond0_0 i) (hc2 : cond0_2 i)
    (x0 : Vec F S1x1x16x128 .bf16) (x1 : Vec F S1x1x2x128 .bf16) (x2 : Vec F S1x1x2x128 .bf16) (x3 : Vec F S1x2x4096x128 .i8) (x4 : Vec F S1x2x128 .f32) (x5 : Vec F S1x2x128 .f32) (x6 : Vec F S1x2x4096x128 .i8) (x7 : Vec F S1x2x4096 .f32) (xt0 : TbBuf0 (F := F) c tbM0_0) (xs0 : Vec F S16x128 .f32) (xs1 : Vec F S16x128 .f32) (xs2 : Vec F S16x128 .f32) (hc1 : ¬cond0_1 i (tbM0_0.view.readAt (Elt F) (Rect.unit (s := S4) (k0_off1 i) S1.size (k0_off1_inb i)).toLoadRect xt0 (Shape.Idx.first (numel1_S1.symm ▸ Nat.one_pos)))) :
    out0_F_10 c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xs0 xs1 xs2 hc1 =
      vCodes x2 := by
  funext y
  frame_open
  try simp (disch := decide) only [↓ View.readCov_skip, ↓ View.readCov_cons_toLoadRect, ↓ View.readCov_fill]
  try frame_out
  try simp only [read_unread_whole, Memref.IsWhole.read_unread]
  try rfl

/-- At the last block, past the length: the value scales. -/
theorem out0_F_11_eq (c : Dev nD) (i : grid0.Coords) (arg3 : Memref sig .tc .vmem S1x1x16x128 .bf16) (harg3 : arg3.IsWhole) (arg4 : Memref sig .tc .vmem S1x1x2x128 .bf16) (harg4 : arg4.IsWhole) (arg5 : Memref sig .tc .vmem S1x1x2x128 .bf16) (harg5 : arg5.IsWhole) (arg6 : Memref sig .tc .vmem S1x2x4096x128 .i8) (harg6 : arg6.IsWhole) (arg7 : Memref sig .tc .vmem S1x2x128 .f32) (harg7 : arg7.IsWhole) (arg8 : Memref sig .tc .vmem S1x2x128 .f32) (harg8 : arg8.IsWhole) (arg9 : Memref sig .tc .vmem S1x2x4096x128 .i8) (harg9 : arg9.IsWhole) (arg10 : Memref sig .tc .vmem S1x2x4096 .f32) (harg10 : arg10.IsWhole) (arg11 : Memref sig .tc .vmem S1x1x16x128 .bf16) (harg11 : arg11.IsWhole) (arg12 : Memref sig .tc .vmem S1x1x2x128 .i8) (harg12 : arg12.IsWhole) (arg13 : Memref sig .tc .vmem S1x1x2x128 .i8) (harg13 : arg13.IsWhole) (arg14 : Memref sig .tc .vmem S1x1x2 .f32) (harg14 : arg14.IsWhole) (arg15 : Memref sig .tc .vmem S16x128 .f32) (harg15 : arg15.IsWhole) (arg16 : Memref sig .tc .vmem S16x128 .f32) (harg16 : arg16.IsWhole) (arg17 : Memref sig .tc .vmem S16x128 .f32) (harg17 : arg17.IsWhole) (hc0 : ¬cond0_0 i) (hc2 : cond0_2 i)
    (x0 : Vec F S1x1x16x128 .bf16) (x1 : Vec F S1x1x2x128 .bf16) (x2 : Vec F S1x1x2x128 .bf16) (x3 : Vec F S1x2x4096x128 .i8) (x4 : Vec F S1x2x128 .f32) (x5 : Vec F S1x2x128 .f32) (x6 : Vec F S1x2x4096x128 .i8) (x7 : Vec F S1x2x4096 .f32) (xt0 : TbBuf0 (F := F) c tbM0_0) (xs0 : Vec F S16x128 .f32) (xs1 : Vec F S16x128 .f32) (xs2 : Vec F S16x128 .f32) (hc1 : ¬cond0_1 i (tbM0_0.view.readAt (Elt F) (Rect.unit (s := S4) (k0_off1 i) S1.size (k0_off1_inb i)).toLoadRect xt0 (Shape.Idx.first (numel1_S1.symm ▸ Nat.one_pos)))) :
    out0_F_11 c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc2 x0 x1 x2 x3 x4 x5 x6 x7 xt0 xs0 xs1 xs2 hc1 =
      vScales x2 := by
  funext y
  frame_open
  try simp (disch := decide) only [↓ View.readCov_skip, ↓ View.readCov_cons_toLoadRect, ↓ View.readCov_fill]
  try frame_out
  try simp only [read_unread_whole, Memref.IsWhole.read_unread]
  try rfl

end Cert.KernelIdeal.Gen
end
-- ==== Proof.Consts.lean ====
module

public import Idealize.ShloMosaic.Lib.Pointwise

/-! The constants the two programs carry, and the conversion of a clamped value to an 8-bit code. -/

@[expose] public section

set_option maxRecDepth 16384

noncomputable section

namespace Cert.Own

open Idealize.ShloMosaic

/-- The kernel's stand-in for minus infinity is a real number. -/
theorem neg_real : ∃ r : ℝ, Ideal.ofBits .f32 0xF149F2CA#32 = (r : EReal) :=
  ⟨_, by unfold Ideal.ofBits Ideal.ieee; dsimp only; rw [if_neg (by decide), if_neg (by decide)]⟩

/-- The stand-in lies above minus infinity. -/
theorem bot_lt_neg : ⊥ < Ideal.ofBits .f32 0xF149F2CA#32 := by
  obtain ⟨r, h⟩ := neg_real; rw [h]; exact EReal.bot_lt_coe r

/-- The stand-in lies below plus infinity. -/
theorem neg_lt_top : Ideal.ofBits .f32 0xF149F2CA#32 < ⊤ := by
  obtain ⟨r, h⟩ := neg_real; rw [h]; exact EReal.coe_lt_top r

/-- Minus infinity's pattern. -/
theorem ofBits_ninf : Ideal.ofBits .f32 0xFF800000#32 = ⊥ := by
  unfold Ideal.ofBits Ideal.ieee; dsimp only
  rw [if_pos (by decide), if_pos (by decide), if_pos (by decide)]

/-- This pattern is 127. -/
theorem ofBits_127 : Ideal.ofBits .f32 0x42FE0000#32 = ((127 : ℝ) : EReal) := by
  unfold Ideal.ofBits Ideal.ieee; dsimp only
  rw [if_neg (by decide), if_neg (by decide), if_neg (by decide)]
  rw [show (BitVec.extractLsb' 23 8 (0x42FE0000#32)).toNat = 133 from rfl,
    show (BitVec.extractLsb' 0 23 (0x42FE0000#32)).toNat = 8257536 from rfl]
  congr 1; norm_num [zpow_neg]

/-- This pattern is −127. -/
theorem ofBits_n127 : Ideal.ofBits .f32 0xC2FE0000#32 = ((-127 : ℝ) : EReal) := by
  unfold Ideal.ofBits Ideal.ieee; dsimp only
  rw [if_neg (by decide), if_neg (by decide), if_pos (by decide)]
  rw [show (BitVec.extractLsb' 23 8 (0xC2FE0000#32)).toNat = 133 from rfl,
    show (BitVec.extractLsb' 0 23 (0xC2FE0000#32)).toNat = 8257536 from rfl]
  congr 1; norm_num [zpow_neg]

/-- This pattern is −128. -/
theorem ofBits_n128 : Ideal.ofBits .f32 0xC3000000#32 = ((-128 : ℝ) : EReal) := by
  unfold Ideal.ofBits Ideal.ieee; dsimp only
  rw [if_neg (by decide), if_neg (by decide), if_pos (by decide)]
  rw [show (BitVec.extractLsb' 23 8 (0xC3000000#32)).toNat = 134 from rfl,
    show (BitVec.extractLsb' 0 23 (0xC3000000#32)).toNat = 0 from rfl]
  congr 1; norm_num [zpow_neg]

/-- Narrowing a 32-bit word made from an integer. -/
theorem setWidth_ofInt (k : ℤ) : (BitVec.ofInt 32 k).setWidth 8 = BitVec.ofInt 8 k := by
  apply BitVec.eq_of_toNat_eq
  rw [BitVec.toNat_setWidth, BitVec.toNat_ofInt, BitVec.toNat_ofInt]
  omega

/-- A value between −128 and 127 converted to 8 bits, directly or by way of 32. -/
theorem fptosi_8 {y : EReal} (h : ((-128 : ℝ) : EReal) ≤ y) (h' : y ≤ ((127 : ℝ) : EReal)) :
    Ideal.fptosi 8 y = (Ideal.fptosi 32 y).setWidth 8 := by
  induction y with
  | bot => exact absurd h (not_le.2 (EReal.bot_lt_coe _))
  | top => exact absurd h' (not_le.2 (EReal.coe_lt_top _))
  | coe r =>
    have h1 : (-128 : ℝ) ≤ r := EReal.coe_le_coe_iff.1 h
    have h2 : r ≤ (127 : ℝ) := EReal.coe_le_coe_iff.1 h'
    unfold Ideal.fptosi
    rw [setWidth_ofInt]
    congr 1
    have hk : -128 ≤ (if 0 ≤ r then ⌊r⌋ else ⌈r⌉) ∧ (if 0 ≤ r then ⌊r⌋ else ⌈r⌉) ≤ 127 := by
      split
      · exact ⟨Int.le_floor.2 (by push_cast; exact h1), by
          have := Int.floor_le r; have : (⌊r⌋ : ℝ) ≤ ((127 : ℤ) : ℝ) := by push_cast; linarith
          exact_mod_cast this⟩
      · exact ⟨by
          have := Int.le_ceil r; have : ((-128 : ℤ) : ℝ) ≤ (⌈r⌉ : ℝ) := by push_cast; linarith
          exact_mod_cast this, Int.ceil_le.2 (by push_cast; exact h2)⟩
    show max _ (min _ (if 0 ≤ r then ⌊r⌋ else ⌈r⌉)) = max _ (min _ (if 0 ≤ r then ⌊r⌋ else ⌈r⌉))
    generalize (if 0 ≤ r then ⌊r⌋ else ⌈r⌉) = k at hk
    norm_num
    omega

/-- Clamping below at `a` and above at `b` keeps a value between them. -/
theorem clamp_mem (a b x : EReal) (h : a ≤ b) : a ≤ min b (max a x) ∧ min b (max a x) ≤ b :=
  ⟨le_min h (le_max_left _ _), min_le_left _ _⟩

/-- The codes with the asymmetric range, by either conversion. -/
theorem code_k (x : EReal) :
    Ideal.fptosi 8 (min (Ideal.ofBits .f32 0x42FE0000#32) (max (Ideal.ofBits .f32 0xC3000000#32) x)) =
      (Ideal.fptosi 32 (min (Ideal.ofBits .f32 0x42FE0000#32) (max (Ideal.ofBits .f32 0xC3000000#32) x))).setWidth 8 := by
  rw [ofBits_127, ofBits_n128]
  obtain ⟨h, h'⟩ := clamp_mem ((-128 : ℝ) : EReal) ((127 : ℝ) : EReal) x (EReal.coe_le_coe_iff.2 (by norm_num))
  exact fptosi_8 h h'

/-- The codes with the symmetric range, by either conversion. -/
theorem code_v (x : EReal) :
    Ideal.fptosi 8 (min (Ideal.ofBits .f32 0x42FE0000#32) (max (Ideal.ofBits .f32 0xC2FE0000#32) x)) =
      (Ideal.fptosi 32 (min (Ideal.ofBits .f32 0x42FE0000#32) (max (Ideal.ofBits .f32 0xC2FE0000#32) x))).setWidth 8 := by
  rw [ofBits_127, ofBits_n127]
  obtain ⟨h, h'⟩ := clamp_mem ((-127 : ℝ) : EReal) ((127 : ℝ) : EReal) x (EReal.coe_le_coe_iff.2 (by norm_num))
  exact fptosi_8 (le_trans (EReal.coe_le_coe_iff.2 (by norm_num)) h) h'

/-- A fold of `max` from minus infinity is the supremum. -/
theorem fold_max {ι : Type*} (s : Finset ι) (f : ι → EReal) : s.fold max (⊥ : EReal) f = s.sup f := rfl

end Cert.Own

end
-- ==== Proof.Softmax.lean ====
/- The mathematics of a softmax taken block by block, over the extended reals: weights relative to a running maximum, the
   running sums rescaled whenever the maximum moves, and the last step against the softmax taken in one piece. -/
module

public import Idealize.ShloMosaic.Init
public import Idealize.ShloMosaic.PureOps.Ideal

@[expose] public section

noncomputable section

namespace Cert.Own.Softmax

open Idealize.ShloMosaic

/-- The weight of a score `s` relative to the maximum `m`. -/
def E (s m : EReal) : EReal := Ideal.exp (s - m)

/-- Relative to plus infinity every weight is zero. -/
theorem E_top (s : EReal) : E s ⊤ = 0 := by
  unfold E; rw [sub_eq_add_neg, EReal.neg_top, EReal.add_bot]; rfl

/-- The weight of minus infinity is zero. -/
theorem E_bot (m : EReal) : E ⊥ m = 0 := by
  unfold E; rw [sub_eq_add_neg, EReal.bot_add]; rfl

/-- The weight of a real score relative to a real maximum. -/
theorem E_coe (s m : ℝ) : E s m = (Real.exp (s - m) : ℝ) := by
  unfold E; rw [← EReal.coe_sub]; rfl

/-- A weight relative to a maximum at least as large is a real number, not negative. -/
theorem E_real {s m : EReal} (h : s ≤ m) : ∃ r : ℝ, 0 ≤ r ∧ E s m = r := by
  induction m with
  | top => exact ⟨0, le_rfl, by rw [E_top]; rfl⟩
  | bot => obtain rfl : s = ⊥ := le_bot_iff.1 h; exact ⟨0, le_rfl, by rw [E_bot]; rfl⟩
  | coe m =>
    induction s with
    | top => exact absurd h (not_le.2 (EReal.coe_lt_top m))
    | bot => exact ⟨0, le_rfl, by rw [E_bot]; rfl⟩
    | coe s => exact ⟨Real.exp (s - m), (Real.exp_pos _).le, E_coe s m⟩

/-- Weights compose: the weight relative to an earlier maximum, rescaled, is the weight relative to the later one. -/
theorem E_mul {s m m' : EReal} (h : s ≤ m) (h' : m ≤ m') (hb : ⊥ < m) : E s m * E m m' = E s m' := by
  induction m' with
  | top => rw [E_top, E_top, mul_zero]
  | bot => exact absurd (hb.trans_le h') (lt_irrefl _)
  | coe m' =>
    induction m with
    | top => exact absurd h' (not_le.2 (EReal.coe_lt_top m'))
    | bot => exact absurd hb (lt_irrefl _)
    | coe m =>
      induction s with
      | top => exact absurd h (not_le.2 (EReal.coe_lt_top m))
      | bot => rw [E_bot, E_bot, zero_mul]
      | coe s =>
        rw [E_coe, E_coe, E_coe, ← EReal.coe_mul, ← Real.exp_add]
        congr 2; ring

/-- A product with a real number that is not negative distributes over a sum. -/
theorem sum_mul {ι : Type*} (S : Finset ι) (f : ι → EReal) {r : ℝ} (hr : 0 ≤ r) :
    (∑ t ∈ S, f t) * (r : EReal) = ∑ t ∈ S, f t * r := by
  classical
  induction S using Finset.induction_on with
  | empty => simp
  | insert a S ha ih =>
    rw [Finset.sum_insert ha, Finset.sum_insert ha, ← ih]
    exact EReal.right_distrib_of_nonneg_of_ne_top (by exact_mod_cast hr) (EReal.coe_ne_top r) _ _

section State

variable {ι : Type*} [DecidableEq ι] (N : EReal) (s u : ι → EReal)

/-- The running maximum over the positions `S`, started at `N`. -/
def Mx (S : Finset ι) : EReal := N ⊔ S.sup s

/-- The running sum over the positions `S` of the weights times `u`. -/
def Sm (S : Finset ι) : EReal := ∑ t ∈ S, E (s t) (Mx N s S) * u t

/-- A score of the set is at most the running maximum. -/
theorem le_Mx (S : Finset ι) {t : ι} (h : t ∈ S) : s t ≤ Mx N s S := (Finset.le_sup h).trans le_sup_right

/-- The running maximum over a union. -/
theorem Mx_union (S T : Finset ι) : Mx N s (S ∪ T) = Mx N s S ⊔ T.sup s := by
  unfold Mx; rw [Finset.sup_union, sup_assoc]

/-- The start is at most the running maximum. -/
theorem N_le_Mx (S : Finset ι) : N ≤ Mx N s S := le_sup_left

/-- Rescaling a running sum to a larger maximum. -/
theorem Sm_mul (hN : ⊥ < N) (S : Finset ι) {m : EReal} (h : Mx N s S ≤ m) :
    Sm N s u S * E (Mx N s S) m = ∑ t ∈ S, E (s t) m * u t := by
  obtain ⟨r, hr, he⟩ := E_real h
  unfold Sm
  rw [he, sum_mul _ _ hr, ← he]
  refine Finset.sum_congr rfl fun t ht => ?_
  rw [mul_right_comm, E_mul (le_Mx N s S ht) h (hN.trans_le (N_le_Mx N s S))]

/-- One block: the old sum rescaled, plus the block's own terms. -/
theorem Sm_union (hN : ⊥ < N) (S T : Finset ι) (hd : Disjoint S T) :
    Sm N s u (S ∪ T) = Sm N s u S * E (Mx N s S) (Mx N s (S ∪ T)) + ∑ t ∈ T, E (s t) (Mx N s (S ∪ T)) * u t := by
  rw [Sm_mul N s u hN S (by rw [Mx_union]; exact le_sup_left)]
  exact Finset.sum_union hd

/-- Over no positions the running maximum is the start. -/
theorem Mx_empty : Mx N s ∅ = N := by simp [Mx]
/-- Over no positions the running sum is zero. -/
theorem Sm_empty : Sm N s u ∅ = 0 := by simp [Sm]

end State

/-- Where the maximum of a finite family of scores and one more is a real number, the sum of the weights is a positive real. -/
theorem sum_pos {ι : Type*} (S : Finset ι) (s : ι → EReal) (sn : EReal) (m : ℝ) (hm : S.sup s ⊔ sn = (m : EReal)) :
    ∃ L : ℝ, 0 < L ∧ ∑ t ∈ S, E (s t) m + E sn m = L := by
  have hs : ∀ t ∈ S, s t ≤ m := fun t ht => hm ▸ (Finset.le_sup ht).trans le_sup_left
  have hsn : sn ≤ m := hm ▸ le_sup_right
  have hreal : ∃ r : ℝ, 0 ≤ r ∧ ∑ t ∈ S, E (s t) m = r := by
    classical
    have : ∀ T ⊆ S, ∃ r : ℝ, 0 ≤ r ∧ ∑ t ∈ T, E (s t) m = r := by
      intro T
      induction T using Finset.induction_on with
      | empty => exact fun _ => ⟨0, le_rfl, by simp⟩
      | insert a T ha ih =>
        intro hT
        obtain ⟨r, hr, he⟩ := ih ((Finset.subset_insert a T).trans hT)
        obtain ⟨r', hr', he'⟩ := E_real (hs a (hT (Finset.mem_insert_self a T)))
        exact ⟨r' + r, by positivity, by rw [Finset.sum_insert ha, he, he', EReal.coe_add]⟩
    exact this S (Finset.Subset.refl S)
  obtain ⟨r, hr, he⟩ := hreal
  obtain ⟨r', hr', he'⟩ := E_real hsn
  refine ⟨r + r', ?_, by rw [he, he', EReal.coe_add]⟩
  rcases le_total (S.sup s) sn with h | h
  · have : sn = m := by rw [← hm]; exact (sup_eq_right.2 h).symm
    rw [this, E_coe] at he'
    have h1 : r' = Real.exp (m - m) := by exact_mod_cast he'.symm
    have := Real.exp_pos (m - m)
    linarith
  · have hsup : S.sup s = m := by rw [← hm]; exact (sup_eq_left.2 h).symm
    have hne : S.Nonempty := by
      rcases S.eq_empty_or_nonempty with h0 | h0
      · rw [h0, Finset.sup_empty] at hsup; exact absurd hsup (EReal.bot_ne_coe m)
      · exact h0
    obtain ⟨t, ht, hst⟩ := Finset.exists_mem_eq_sup S hne s
    have h1 : E (s t) m ≤ ∑ t ∈ S, E (s t) m :=
      Finset.single_le_sum (f := fun t => E (s t) m) (fun i hi => by
        obtain ⟨q, hq, hq'⟩ := E_real (hs i hi); rw [hq']; exact_mod_cast hq) ht
    rw [← hst, hsup, E_coe, he] at h1
    have h2 : Real.exp (m - m) ≤ r := by exact_mod_cast h1
    have := Real.exp_pos (m - m)
    linarith

/-- A quotient of reals. -/
theorem div_coe_coe (x y : ℝ) (h : y ≠ 0) : Ideal.div x y = ((x / y : ℝ) : EReal) := by
  rw [Ideal.div_coe h, ← EReal.coe_mul]; congr 1; ring

/-- The last step: the running sums, joined with the new position's score `sn` and value `vn`, give the softmax taken in one
    piece over the positions `S` and the new one. -/
theorem final {ι : Type*} [DecidableEq ι] (N : EReal) (hN : ⊥ < N) (hN' : N < ⊤) (s w c : ι → EReal) (S : Finset ι) (sn vn : EReal) :
    let m := Mx N s S ⊔ sn
    let a := E (Mx N s S) m
    let inv := Ideal.div 1 (Sm N s (fun _ => 1) S * a + E sn m)
    let mr := S.sup s ⊔ sn
    let invr := Ideal.div 1 (∑ t ∈ S, E (s t) mr + E sn mr)
    Sm N s (fun t => w t * c t) S * (a * inv) + E sn m * inv * vn
      = ∑ t ∈ S, E (s t) mr * invr * w t * c t + E sn mr * invr * vn := by
  intro m a inv mr invr
  have hm : Mx N s S ≤ m := le_sup_left
  have h1 : Sm N s (fun _ => 1) S * a = ∑ t ∈ S, E (s t) m := by
    rw [Sm_mul N s _ hN S hm]; simp
  have h2 : Sm N s (fun t => w t * c t) S * a = ∑ t ∈ S, E (s t) m * (w t * c t) := Sm_mul N s _ hN S hm
  have hmr : m = N ⊔ mr := by simp only [m, mr, Mx, sup_assoc]
  have hs : ∀ t ∈ S, s t ≤ mr := fun t ht => (Finset.le_sup ht).trans le_sup_left
  have hsn : sn ≤ mr := le_sup_right
  rw [← mul_assoc, h2]
  simp only [inv, invr]
  rw [h1]
  clear_value m a
  clear inv invr h1 h2 hm
  subst hmr
  induction hr : mr with
  | top =>
    rw [sup_top_eq]; simp only [E_top, zero_mul, Finset.sum_const_zero]
  | bot =>
    have hs' : ∀ t ∈ S, s t = ⊥ := fun t ht => le_bot_iff.1 (hr ▸ hs t ht)
    have hsn' : sn = ⊥ := le_bot_iff.1 (hr ▸ hsn)
    rw [hsn']
    rw [E_bot, E_bot, Finset.sum_eq_zero (fun t ht => by rw [hs' t ht, E_bot, zero_mul])]
    simp only [zero_mul]
    rw [Finset.sum_eq_zero (fun t ht => by rw [hs' t ht, E_bot, zero_mul, zero_mul, zero_mul])]
  | coe r =>
    induction N with
    | top => exact absurd hN' (lt_irrefl _)
    | bot => exact absurd hN (lt_irrefl _)
    | coe N =>
      have hmax : ((N : EReal) ⊔ (r : EReal)) = ((N ⊔ r : ℝ) : EReal) := (EReal.coe_strictMono.monotone.map_sup N r).symm
      rw [hmax]
      set M : ℝ := N ⊔ r with hM
      have hrM : r ≤ M := le_sup_right
      rw [hr] at hs hsn
      have hE : ∀ x : EReal, x ≤ r → E x M = E x r * (Real.exp (r - M) : ℝ) := fun x hx => by
        rw [← E_coe r M, E_mul hx (by exact_mod_cast hrM) (EReal.bot_lt_coe r)]
      obtain ⟨L, hL, hLe⟩ := sum_pos S s sn r hr
      have hcp : 0 < Real.exp (r - M) := Real.exp_pos _
      generalize Real.exp (r - M) = q at hE hcp
      have hden : ∑ t ∈ S, E (s t) M + E sn M = ((L * q : ℝ) : EReal) := by
        rw [hE sn hsn, Finset.sum_congr rfl (fun t ht => hE (s t) (hs t ht)), ← sum_mul _ _ hcp.le,
          ← EReal.right_distrib_of_nonneg_of_ne_top (by exact_mod_cast hcp.le) (EReal.coe_ne_top q), hLe, EReal.coe_mul]
      have h1e : (1 : EReal) = ((1 : ℝ) : EReal) := rfl
      rw [hden, hLe, h1e, div_coe_coe _ _ (by positivity), div_coe_coe _ _ hL.ne']
      have hq : ∀ x : EReal, x ≤ r → E x M * ((1 / (L * q) : ℝ) : EReal) = E x r * ((1 / L : ℝ) : EReal) := fun x hx => by
        rw [hE x hx, mul_assoc, ← EReal.coe_mul]; congr 2; field_simp
      rw [hq sn hsn, sum_mul _ _ (by positivity)]
      congr 1
      refine Finset.sum_congr rfl fun t ht => ?_
      rw [mul_right_comm, hq (s t) (hs t ht), mul_assoc, mul_assoc, mul_assoc]

end Cert.Own.Softmax

end
-- ==== Proof.Step.lean ====
module

public import proofs.«01_k».proof.Proof.Cases
public import proofs.«01_k».proof.Proof.Consts
public import proofs.«01_k».proof.Proof.Words
public import proofs.«01_k».proof.Proof.Softmax
public import Idealize.ShloMosaic.Lib.Pointwise

/-! What one block computes at the ideal values: the running softmax state over the positions seen so far, joined with the
    block's live positions. -/

@[expose] public section

set_option maxRecDepth 16384

noncomputable section

namespace Cert.KernelIdeal.Gen

open Idealize.ShloMosaic Idealize.ShloMosaic.TcCoe Idealize.ShloMosaic.Tactic
open Cert.Own Cert.Own.Softmax

/-! ### Positions -/

/-- The live positions of block `j`. -/
def blkS (j : ℕ) (n : BitVec 32) : Finset (Fin 32768) :=
  Finset.univ.filter fun p => 4096 * j ≤ p.val ∧ p.val < 4096 * (j + 1) ∧ (p.val : ℤ) < n.toInt

/-- The live positions of the blocks before `j`. -/
def upto (j : ℕ) (n : BitVec 32) : Finset (Fin 32768) :=
  Finset.univ.filter fun p => p.val < 4096 * j ∧ (p.val : ℤ) < n.toInt

/-- Before the first block no position is live. -/
theorem upto_zero (n : BitVec 32) : upto 0 n = ∅ := by
  unfold upto; rw [Finset.filter_eq_empty_iff]; intro p _ h; omega

/-- One block further, the block's live positions are added. -/
theorem upto_succ (j : ℕ) (n : BitVec 32) : upto (j + 1) n = upto j n ∪ blkS j n := by
  ext p; simp only [upto, blkS, Finset.mem_filter, Finset.mem_univ, true_and, Finset.mem_union]; omega

/-- A block's live positions are new. -/
theorem upto_disjoint (j : ℕ) (n : BitVec 32) : Disjoint (upto j n) (blkS j n) := by
  rw [Finset.disjoint_left]; intro p; simp only [upto, blkS, Finset.mem_filter, Finset.mem_univ, true_and]; omega

/-- A block past the length has no live position. -/
theorem upto_dead (j : ℕ) (n : BitVec 32) (h : n.toInt ≤ 4096 * j) : upto (j + 1) n = upto j n := by
  ext p; simp only [upto, Finset.mem_filter, Finset.mem_univ, true_and]; omega

/-- After eight blocks, the live positions are those below the length. -/
theorem upto_eight (n : BitVec 32) : upto 8 n = Finset.univ.filter fun p => (p.val : ℤ) < n.toInt := by
  ext p; have := p.isLt; simp only [upto, Finset.mem_filter, Finset.mem_univ, true_and]; omega

/-- Position `x` of block `j`. -/
def pos (j : Fin 8) (x : Fin 4096) : Fin 32768 := ⟨4096 * j.val + x.val, by omega⟩

/-- The positions of a block are distinct. -/
theorem pos_inj (j : Fin 8) : Function.Injective (pos j) := by
  intro x y h; have := congrArg Fin.val h; simp only [pos] at this; exact Fin.ext (by omega)

/-- A block's live positions are the images of its live places. -/
theorem blkS_eq (j : Fin 8) (n : BitVec 32) :
    blkS j.val n = (Finset.univ.filter fun x : Fin 4096 => (4096 * j.val + x.val : ℤ) < n.toInt).map ⟨pos j, pos_inj j⟩ := by
  ext p
  simp only [blkS, Finset.mem_filter, Finset.mem_univ, true_and, Finset.mem_map, Function.Embedding.coeFn_mk]
  constructor
  · rintro ⟨h1, h2, h3⟩
    exact ⟨⟨p.val - 4096 * j.val, by omega⟩, by dsimp only; omega, Fin.ext (by dsimp only [pos]; omega)⟩
  · rintro ⟨x, hx, rfl⟩
    have := x.isLt
    dsimp only [pos]; refine ⟨by omega, by omega, by push_cast; omega⟩

/-- A sum over a block's live positions, as a sum over its places. -/
theorem sum_blkS (j : Fin 8) (n : BitVec 32) (f : Fin 32768 → EReal) :
    ∑ p ∈ blkS j.val n, f p = ∑ x : Fin 4096, if (4096 * j.val + x.val : ℤ) < n.toInt then f (pos j x) else 0 := by
  rw [blkS_eq, Finset.sum_map, ← Finset.sum_filter]; rfl

/-- A supremum over a block's live positions, as one over its places. -/
theorem sup_blkS (j : Fin 8) (n : BitVec 32) (N : EReal) (f : Fin 32768 → EReal) :
    N ⊔ Finset.univ.sup (fun x : Fin 4096 => if (4096 * j.val + x.val : ℤ) < n.toInt then f (pos j x) else N)
      = N ⊔ (blkS j.val n).sup f := by
  rw [blkS_eq, Finset.sup_map]
  apply le_antisymm
  · refine sup_le le_sup_left (Finset.sup_le fun x _ => ?_)
    split
    · rename_i h
      exact le_trans (Finset.le_sup (f := f ∘ pos j) (Finset.mem_filter.2 ⟨Finset.mem_univ x, h⟩)) le_sup_right
    · exact le_sup_left
  · refine sup_le le_sup_left (Finset.sup_le fun x hx => ?_)
    refine le_trans ?_ le_sup_right
    have h := (Finset.mem_filter.1 hx).2
    refine le_trans (le_of_eq ?_) (Finset.le_sup (Finset.mem_univ x))
    rw [if_pos h]; rfl

/-! ### Payloads at an index -/

/-- The mask selects by position. -/
theorem mask_select {α : Type} (j : Fin 8) (n : BitVec 32) (r : Fin 8) (x : Fin 4096) (u v : α) :
    Scalar.select (k0_pay10 (F := Ideal) (BitVec.ofNat 32 j.val) n (ix2 r x)) u v
      = if (4096 * j.val + x.val : ℤ) < n.toInt then u else v := by
  pointwise [k0_pay10]
  have h : (IntOp.addi (Scalar.muli (BitVec.ofNat 32 j.val) 4096#32) (BitVec.ofNat 32 x.val)).toInt = 4096 * j.val + x.val := by
    have : (IntOp.addi (Scalar.muli (BitVec.ofNat 32 j.val) 4096#32) (BitVec.ofNat 32 x.val)).toNat = 4096 * j.val + x.val := by
      simp only [Scalar.muli, IntOp.muli, IntOp.addi, BitVec.toNat_add, BitVec.toNat_mul, BitVec.toNat_ofNat]; omega
    rw [Words.toInt_of_lt (by omega), this]; push_cast; rfl
  by_cases hl : (4096 * j.val + x.val : ℤ) < n.toInt
  · have : (IntOp.addi (Scalar.muli (BitVec.ofNat 32 j.val) 4096#32) (BitVec.ofNat 32 x.val)).slt n = true := by
      simp only [BitVec.slt, decide_eq_true_eq]; rw [h]; exact hl
    rw [if_pos hl]; simp [IntOp.cmpi, this, Scalar.select]
  · have : (IntOp.addi (Scalar.muli (BitVec.ofNat 32 j.val) 4096#32) (BitVec.ofNat 32 x.val)).slt n = false := by
      simp only [BitVec.slt, decide_eq_false_iff_not]; rw [h]; exact hl
    rw [if_neg hl]; simp [IntOp.cmpi, this, Scalar.select]

/-- The factor the scores are scaled by. -/
abbrev SC : EReal := Ideal.ofBits .f32 0x3DB504F3#32

/-- The stand-in for minus infinity. -/
abbrev NEG : EReal := Ideal.ofBits .f32 0xF149F2CA#32

/-- An 8-bit code as a number. -/
abbrev num (w : BitVec 8) : EReal := ((w.toInt : ℝ) : EReal)

/-- What the block's keys must be: their scores with row `r` of the queries are `s` at the block's positions. -/
def Scores (j : Fin 8) (q : Vec Ideal S1x1x8x128 .bf16) (z sc : Vec Ideal S1x1x128 .f32) (k : Vec Ideal S1x1x4096x128 .i8)
    (r : Fin 8) (s : Fin 32768 → EReal) : Prop :=
  ∀ x : Fin 4096, (∑ e : Fin 128, q (ix4 0 0 r e) * ((num (k (ix4 0 0 x e)) - z (ix3 0 0 e)) * sc (ix3 0 0 e))) * SC = s (pos j x)

variable (j : Fin 8) (n : BitVec 32) (q : Vec Ideal S1x1x8x128 .bf16) (z sc : Vec Ideal S1x1x128 .f32)
  (k : Vec Ideal S1x1x4096x128 .i8) (r : Fin 8) (d : Fin 128) (s : Fin 32768 → EReal)

/-- The scores of a block after the kernel's mask: the stand-in past the length. -/
theorem pay11_apply (hs : Scores j q z sc k r s) (x : Fin 4096) :
    k0_pay11 (F := Ideal) (BitVec.ofNat 32 j.val) n q z sc k (ix2 r x)
      = if (4096 * j.val + x.val : ℤ) < n.toInt then s (pos j x) else NEG := by
  pointwise [k0_pay11]
  rw [mask_select, ← hs x]; rfl

/-- The maximum, whatever lane it is read in. -/
theorem pay12_step (hs : Scores j q z sc k r s) (M : Vec Ideal S8x128 .f32) (hM : M (ix2 r d) = Mx NEG s (upto j.val n)) :
    k0_pay12 (F := Ideal) (BitVec.ofNat 32 j.val) n q z sc k M (ix2 r d) = Mx NEG s (upto (j.val + 1) n) := by
  pointwise [k0_pay12]
  rw [ofBits_ninf, fold_max, hM, upto_succ, Mx_union]
  rw [show (fun x => k0_pay11 (F := Ideal) (BitVec.ofNat 32 j.val) n q z sc k (ix2 r x)) = _ from
    funext fun x => pay11_apply j n q z sc k r s hs x]
  have hN : Mx NEG s (upto j.val n) = Mx NEG s (upto j.val n) ⊔ NEG := (sup_eq_left.2 (N_le_Mx _ _ _)).symm
  change Mx NEG s (upto j.val n) ⊔ _ = _
  rw [hN, sup_assoc, sup_blkS, ← sup_assoc]

/-- The new maximum is the running maximum one block further. -/
theorem hM_step (hs : Scores j q z sc k r s) (M : Vec Ideal S8x128 .f32) (hM' : M (ix2 r d) = Mx NEG s (upto j.val n)) :
    hM (F := Ideal) (BitVec.ofNat 32 j.val) n q z sc k M (ix2 r d) = Mx NEG s (upto (j.val + 1) n) := by
  rw [← pay12_step j n q z sc k r d s hs M hM']
  pointwise [hM, k0_pay17]

/-- The new sum of weights is the running sum one block further. -/
theorem hL_step (hs : Scores j q z sc k r s) (M L : Vec Ideal S8x128 .f32) (hM' : ∀ d, M (ix2 r d) = Mx NEG s (upto j.val n))
    (hL' : L (ix2 r d) = Sm NEG s (fun _ => 1) (upto j.val n)) :
    hL (F := Ideal) (BitVec.ofNat 32 j.val) n q z sc k M L (ix2 r d) = Sm NEG s (fun _ => 1) (upto (j.val + 1) n) := by
  pointwise [hL, k0_pay18, k0_pay16, k0_pay15, k0_pay13, k0_pay14]
  rw [pay12_step j n q z sc k r d s hs M (hM' d), hM', hL']
  rw [show k0_pay12 (F := Ideal) (BitVec.ofNat 32 j.val) n q z sc k M (ix2 r 0) = _ from
    pay12_step j n q z sc k r 0 s hs M (hM' 0)]
  rw [upto_succ, Sm_union NEG s _ bot_lt_neg _ _ (upto_disjoint _ _), sum_blkS]
  congr 1
  refine Finset.sum_congr rfl fun x _ => ?_
  rw [mask_select, pay11_apply j n q z sc k r s hs x]
  split
  · rw [mul_one]; rfl
  · rfl

/-- The new weighted values are the running sum one block further. -/
theorem hA_step (hs : Scores j q z sc k r s) (M A : Vec Ideal S8x128 .f32) (vs : Vec Ideal S1x1x4096 .f32)
    (cv : Vec Ideal S1x1x4096x128 .i8) (w c : Fin 32768 → EReal) (hw : ∀ x, vs (ix3 0 0 x) = w (pos j x))
    (hc : ∀ x, num (cv (ix4 0 0 x d)) = c (pos j x))
    (hM' : ∀ d, M (ix2 r d) = Mx NEG s (upto j.val n))
    (hA' : A (ix2 r d) = Sm NEG s (fun t => w t * c t) (upto j.val n)) :
    hA (F := Ideal) (BitVec.ofNat 32 j.val) n q z sc k vs cv M A (ix2 r d) = Sm NEG s (fun t => w t * c t) (upto (j.val + 1) n) := by
  pointwise [hA, k0_pay19, k0_pay16, k0_pay15, k0_pay13, k0_pay14]
  rw [pay12_step j n q z sc k r d s hs M (hM' d), hM', hA']
  rw [show k0_pay12 (F := Ideal) (BitVec.ofNat 32 j.val) n q z sc k M (ix2 r 0) = _ from
    pay12_step j n q z sc k r 0 s hs M (hM' 0)]
  rw [upto_succ, Sm_union NEG s _ bot_lt_neg _ _ (upto_disjoint _ _), sum_blkS]
  congr 1
  refine Finset.sum_congr rfl fun x _ => ?_
  rw [mask_select, mask_select, pay11_apply j n q z sc k r s hs x, hw]
  split
  · rw [← hc, ← mul_assoc]; rfl
  · rfl

end Cert.KernelIdeal.Gen
end
-- ==== Proof.Block.lean ====
module

public import proofs.«01_k».proof.Proof.Step

/-! The same for the sixteen rows of a block, and the results the last point writes. -/

@[expose] public section

set_option maxRecDepth 16384

noncomputable section

namespace Cert.KernelIdeal.Gen

open Idealize.ShloMosaic Idealize.ShloMosaic.TcCoe Idealize.ShloMosaic.Tactic
open Cert.Own Cert.Own.Softmax

/-- The key and value head a query row belongs to. -/
abbrev hd (r : Fin 16) : Fin 2 := ⟨r.val / 8, by omega⟩

/-- The scores of a block's keys with the sixteen query rows are `s` at the block's positions. -/
def ScoresW (j : Fin 8) (x0 : Vec Ideal S1x1x16x128 .bf16) (x3 : Vec Ideal S1x2x4096x128 .i8) (x4 x5 : Vec Ideal S1x2x128 .f32)
    (s : Fin 16 → Fin 32768 → EReal) : Prop :=
  ∀ (r : Fin 16) (x : Fin 4096), (∑ e : Fin 128, x0 (ix4 0 0 r e) *
    ((num (x3 (ix4 0 (hd r) x e)) - x5 (ix3 0 (hd r) e)) * x4 (ix3 0 (hd r) e))) * SC = s r (pos j x)

variable {j : Fin 8} {x0 : Vec Ideal S1x1x16x128 .bf16} {x3 : Vec Ideal S1x2x4096x128 .i8} {x4 x5 : Vec Ideal S1x2x128 .f32}
  {s : Fin 16 → Fin 32768 → EReal}

/-- The first eight query rows belong to head 0. -/
theorem hd_lo (r : Fin 8) : hd ⟨r.val, by omega⟩ = 0 := Fin.ext (by have := r.isLt; show r.val / 8 = 0; omega)
/-- The last eight query rows belong to head 1. -/
theorem hd_hi (r : Fin 8) : hd ⟨r.val + 8, by omega⟩ = 1 := Fin.ext (by have := r.isLt; show (r.val + 8) / 8 = 1; omega)

/-- Head 0's queries, read at an index. -/
theorem qlo_apply {F : FTy → Type} (x0 : Vec F S1x1x16x128 .bf16) (r : Fin 8) (e : Fin 128) :
    qlo x0 (ix4 0 0 r e) = x0 (ix4 0 0 ⟨r.val, by omega⟩ e) := by pointwise [qlo]
/-- Head 1's queries, read at an index. -/
theorem qhi_apply {F : FTy → Type} (x0 : Vec F S1x1x16x128 .bf16) (r : Fin 8) (e : Fin 128) :
    qhi x0 (ix4 0 0 r e) = x0 (ix4 0 0 ⟨r.val + 8, by omega⟩ e) := by
  pointwise [qhi]; simp only [Nat.add_comm]
/-- Head 0's row of a block of scales or zero points, read at an index. -/
theorem zlo_apply {F : FTy → Type} (x : Vec F S1x2x128 .f32) (e : Fin 128) : zlo x (ix3 0 0 e) = x (ix3 0 0 e) := by pointwise [zlo]
/-- Head 1's row of a block of scales or zero points, read at an index. -/
theorem zhi_apply {F : FTy → Type} (x : Vec F S1x2x128 .f32) (e : Fin 128) : zhi x (ix3 0 0 e) = x (ix3 0 1 e) := by pointwise [zhi]
/-- Head 0's codes of a cache block, read at an index. -/
theorem clo_apply {F : FTy → Type} (x : Vec F S1x2x4096x128 .i8) (y : Fin 4096) (e : Fin 128) :
    clo x (ix4 0 0 y e) = x (ix4 0 0 y e) := by pointwise [clo]
/-- Head 1's codes of a cache block, read at an index. -/
theorem chi_apply {F : FTy → Type} (x : Vec F S1x2x4096x128 .i8) (y : Fin 4096) (e : Fin 128) :
    chi x (ix4 0 0 y e) = x (ix4 0 1 y e) := by pointwise [chi]
/-- Head 0's value scales of a cache block, read at an index. -/
theorem wlo_apply {F : FTy → Type} (x : Vec F S1x2x4096 .f32) (y : Fin 4096) : wlo x (ix3 0 0 y) = x (ix3 0 0 y) := by pointwise [wlo]
/-- Head 1's value scales of a cache block, read at an index. -/
theorem whi_apply {F : FTy → Type} (x : Vec F S1x2x4096 .f32) (y : Fin 4096) : whi x (ix3 0 0 y) = x (ix3 0 1 y) := by pointwise [whi]
/-- Head 0's new row, read at an index. -/
theorem nlo_apply {F : FTy → Type} (x : Vec F S1x1x2x128 .bf16) (e : Fin 128) : nlo x (ix4 0 0 0 e) = x (ix4 0 0 0 e) := by pointwise [nlo]
/-- Head 1's new row, read at an index. -/
theorem nhi_apply {F : FTy → Type} (x : Vec F S1x1x2x128 .bf16) (e : Fin 128) : nhi x (ix4 0 0 0 e) = x (ix4 0 0 1 e) := by pointwise [nhi]

/-- The scores of both heads' rows, restricted to head 0. -/
theorem scores_lo (h : ScoresW j x0 x3 x4 x5 s) (r : Fin 8) :
    Scores j (qlo x0) (zlo x5) (zlo x4) (clo x3) r (s ⟨r.val, by omega⟩) := by
  intro x; rw [← h ⟨r.val, by omega⟩ x, hd_lo]
  refine congrArg (· * SC) (Finset.sum_congr rfl fun e _ => ?_)
  rw [qlo_apply, zlo_apply, zlo_apply, clo_apply]

/-- The scores of both heads' rows, restricted to head 1. -/
theorem scores_hi (h : ScoresW j x0 x3 x4 x5 s) (r : Fin 8) :
    Scores j (qhi x0) (zhi x5) (zhi x4) (chi x3) r (s ⟨r.val + 8, by omega⟩) := by
  intro x; rw [← h ⟨r.val + 8, by omega⟩ x, hd_hi]
  refine congrArg (· * SC) (Finset.sum_congr rfl fun e _ => ?_)
  rw [qhi_apply, zhi_apply, zhi_apply, chi_apply]

/-- The running state after the blocks before `j`: maxima, sums of weights, weighted sums of value rows. -/
structure St (j : ℕ) (n : BitVec 32) (s : Fin 16 → Fin 32768 → EReal) (w : Fin 2 → Fin 32768 → EReal)
    (c : Fin 2 → Fin 128 → Fin 32768 → EReal) (M L A : Vec Ideal S16x128 .f32) : Prop where
  max : ∀ r d, M (ix2 r d) = Mx NEG (s r) (upto j n)
  sum : ∀ r d, L (ix2 r d) = Sm NEG (s r) (fun _ => 1) (upto j n)
  acc : ∀ r d, A (ix2 r d) = Sm NEG (s r) (fun t => w (hd r) t * c (hd r) d t) (upto j n)

/-- Before the first block. -/
theorem St.init (n : BitVec 32) (s : Fin 16 → Fin 32768 → EReal) (w c) : St 0 n s w c (k0_pay1 (F := Ideal)) (k0_pay2 (F := Ideal)) (k0_pay3 (F := Ideal)) where
  max r d := by rw [upto_zero, Mx_empty]; pointwise [k0_pay1]
  sum r d := by rw [upto_zero, Sm_empty]; pointwise [k0_pay2]
  acc r d := by rw [upto_zero, Sm_empty]; pointwise [k0_pay3]

/-- A row of the sixteen is one of either half. -/
theorem row_cases {P : Fin 16 → Prop} (h0 : ∀ r : Fin 8, P ⟨r.val, by omega⟩) (h1 : ∀ r : Fin 8, P ⟨r.val + 8, by omega⟩) (r : Fin 16) : P r := by
  by_cases h : r.val < 8
  · exact h0 ⟨r.val, h⟩
  · have := h1 ⟨r.val - 8, by omega⟩
    rwa [show (⟨(⟨r.val - 8, by omega⟩ : Fin 8).val + 8, by have := r.isLt; dsimp only; omega⟩ : Fin 16) = r from Fin.ext (by dsimp only; omega)] at this

/-- Two stacked halves, read in the first. -/
theorem two_lo' (v u : Vec Ideal S8x128 .f32) (r : Fin 8) (d : Fin 128) : two v u (ix2 ⟨r.val, by omega⟩ d) = v (ix2 r d) :=
  two_lt v u ⟨r.val, by omega⟩ d r.isLt

/-- Two stacked halves, read in the second. -/
theorem two_hi' (v u : Vec Ideal S8x128 .f32) (r : Fin 8) (d : Fin 128) : two v u (ix2 ⟨r.val + 8, by omega⟩ d) = u (ix2 r d) := by
  rw [two_ge v u ⟨r.val + 8, by omega⟩ d (by dsimp only; omega)]
  exact congrArg (fun z => u (ix2 z d)) (Fin.ext (Nat.add_sub_cancel r.val 8))

/-- The output block of two stacked halves, read in the first. -/
theorem two4_lo' (v u : Vec Ideal S1x1x8x128 .bf16) (r : Fin 8) (d : Fin 128) :
    two4 v u (ix4 0 0 ⟨r.val, by omega⟩ d) = v (ix4 0 0 r d) :=
  two4_lt v u ⟨r.val, by omega⟩ d r.isLt

/-- The output block of two stacked halves, read in the second. -/
theorem two4_hi' (v u : Vec Ideal S1x1x8x128 .bf16) (r : Fin 8) (d : Fin 128) :
    two4 v u (ix4 0 0 ⟨r.val + 8, by omega⟩ d) = u (ix4 0 0 r d) := by
  rw [two4_ge v u ⟨r.val + 8, by omega⟩ d (by dsimp only; omega)]
  exact congrArg (fun z => u (ix4 0 0 z d)) (Fin.ext (Nat.add_sub_cancel r.val 8))

variable {n : BitVec 32} {w : Fin 2 → Fin 32768 → EReal} {c : Fin 2 → Fin 128 → Fin 32768 → EReal}
  {x6 : Vec Ideal S1x2x4096x128 .i8} {x7 : Vec Ideal S1x2x4096 .f32} {M L A : Vec Ideal S16x128 .f32}

/-- One live block carries the state forward. -/
theorem St.step (hs : ScoresW j x0 x3 x4 x5 s) (hw : ∀ h x, x7 (ix3 0 h x) = w h (pos j x))
    (hc : ∀ h d x, num (x6 (ix4 0 h x d)) = c h d (pos j x)) (st : St j.val n s w c M L A) :
    St (j.val + 1) n s w c (newM (BitVec.ofNat 32 j.val) n x0 x3 x4 x5 M) (newL (BitVec.ofNat 32 j.val) n x0 x3 x4 x5 M L)
      (newA (BitVec.ofNat 32 j.val) n x0 x3 x4 x5 x6 x7 M A) where
  max r d := by
    unfold newM
    revert r; refine row_cases (fun r => ?_) (fun r => ?_)
    · rw [two_lo']; exact hM_step _ _ _ _ _ _ _ _ _ (scores_lo hs r) _ (by rw [lo_apply]; exact st.max _ _)
    · rw [two_hi']; exact hM_step _ _ _ _ _ _ _ _ _ (scores_hi hs r) _ (by rw [hi_apply]; exact st.max _ _)
  sum r d := by
    unfold newL
    revert r; refine row_cases (fun r => ?_) (fun r => ?_)
    · rw [two_lo']
      exact hL_step _ _ _ _ _ _ _ _ _ (scores_lo hs r) _ _ (fun d => by rw [lo_apply]; exact st.max _ _) (by rw [lo_apply]; exact st.sum _ _)
    · rw [two_hi']
      exact hL_step _ _ _ _ _ _ _ _ _ (scores_hi hs r) _ _ (fun d => by rw [hi_apply]; exact st.max _ _) (by rw [hi_apply]; exact st.sum _ _)
  acc r d := by
    unfold newA
    revert r; refine row_cases (fun r => ?_) (fun r => ?_)
    · rw [two_lo', hd_lo]
      refine hA_step _ _ _ _ _ _ _ _ _ (scores_lo hs r) _ _ _ _ (w 0) (c 0 d) (fun x => by rw [wlo_apply]; exact hw _ _)
        (fun x => by rw [clo_apply]; exact hc _ _ _) (fun d => by rw [lo_apply]; exact st.max _ _) ?_
      rw [lo_apply, st.acc, hd_lo]
    · rw [two_hi', hd_hi]
      refine hA_step _ _ _ _ _ _ _ _ _ (scores_hi hs r) _ _ _ _ (w 1) (c 1 d) (fun x => by rw [whi_apply]; exact hw _ _)
        (fun x => by rw [chi_apply]; exact hc _ _ _) (fun d => by rw [hi_apply]; exact st.max _ _) ?_
      rw [hi_apply, st.acc, hd_hi]

/-! ### The results -/

/-- The new key's score with row `r` of a block's queries. -/
def snew (x0 : Vec Ideal S1x1x16x128 .bf16) (x1 : Vec Ideal S1x1x2x128 .bf16) (r : Fin 16) : EReal :=
  (∑ e : Fin 128, x0 (ix4 0 0 r e) * x1 (ix4 0 0 (hd r) e)) * SC

/-- The softmax-weighted value over the positions `S` and the new one, in one piece. -/
def soft (s w c : Fin 32768 → EReal) (S : Finset (Fin 32768)) (sn vn : EReal) : EReal :=
  ∑ t ∈ S, E (s t) (S.sup s ⊔ sn) * Ideal.div 1 (∑ t ∈ S, E (s t) (S.sup s ⊔ sn) + E sn (S.sup s ⊔ sn)) * w t * c t
    + E sn (S.sup s ⊔ sn) * Ideal.div 1 (∑ t ∈ S, E (s t) (S.sup s ⊔ sn) + E sn (S.sup s ⊔ sn)) * vn

/-- The last step of one head: from the state over the positions `S`, the softmax in one piece over them and the new position. -/
theorem fin_half (q : Vec Ideal S1x1x8x128 .bf16) (kn vn : Vec Ideal S1x1x1x128 .bf16) (M L A : Vec Ideal S8x128 .f32) (r : Fin 8)
    (d : Fin 128) (s w c : Fin 32768 → EReal) (S : Finset (Fin 32768)) (hM : M (ix2 r d) = Mx NEG s S)
    (hL : L (ix2 r d) = Sm NEG s (fun _ => 1) S) (hA : A (ix2 r d) = Sm NEG s (fun t => w t * c t) S) :
    k0_pay29 (F := Ideal) (k0_pay28 (F := Ideal) q kn vn M L A) (ix4 0 0 r d)
      = soft s w c S ((∑ e : Fin 128, q (ix4 0 0 r e) * kn (ix4 0 0 0 e)) * SC) (vn (ix4 0 0 0 d)) := by
  pointwise [k0_pay29, k0_pay28]
  rw [hM, hL, hA]
  exact final NEG bot_lt_neg neg_lt_top s w c S _ _

/-- The output block from the state over all live positions. -/
theorem finO_apply (x1 x2 : Vec Ideal S1x1x2x128 .bf16) (st : St 8 n s w c M L A) (r : Fin 16) (d : Fin 128) :
    finO x0 x1 x2 M L A (ix4 0 0 r d)
      = soft (s r) (w (hd r)) (c (hd r) d) (upto 8 n) (snew x0 x1 r) (x2 (ix4 0 0 (hd r) d)) := by
  unfold finO snew
  revert r; refine row_cases (fun r => ?_) (fun r => ?_)
  · rw [two4_lo', fin_half _ _ _ _ _ _ r d _ _ _ _ (by rw [lo_apply]; exact st.max _ _) (by rw [lo_apply]; exact st.sum _ _)
      (by rw [lo_apply]; exact st.acc _ _), hd_lo, nlo_apply]
    exact congrArg (fun z => soft _ _ _ _ (z * SC) _) (Finset.sum_congr rfl fun e _ => by rw [qlo_apply, nlo_apply])
  · rw [two4_hi', fin_half _ _ _ _ _ _ r d _ _ _ _ (by rw [hi_apply]; exact st.max _ _) (by rw [hi_apply]; exact st.sum _ _)
      (by rw [hi_apply]; exact st.acc _ _), hd_hi, nhi_apply]
    exact congrArg (fun z => soft _ _ _ _ (z * SC) _) (Finset.sum_congr rfl fun e _ => by rw [qhi_apply, nhi_apply])

/-- The largest magnitude of a head's new value row. -/
def amax (x2 : Fin 128 → EReal) : EReal := Finset.univ.sup fun e => max (x2 e) (-(x2 e))

/-- The quantiser's scale of a row. -/
def rowScale (x2 : Fin 128 → EReal) : EReal := if 0 < amax x2 then Ideal.div (amax x2) (Ideal.ofBits .f32 0x42FE0000#32) else 1

/-- The new keys' codes that the last step stores, at an index. -/
theorem kcode_apply (x1 : Vec Ideal S1x1x2x128 .bf16) (h : Fin 2) (d : Fin 128) :
    k0_pay38 (F := Ideal) x1 x4 x5 (ix4 0 0 h d) = Ideal.fptosi 8 (min (Ideal.ofBits .f32 0x42FE0000#32)
      (max (Ideal.ofBits .f32 0xC3000000#32) (Ideal.liftRound Ideal.roundHalfEven
        (Ideal.div (x1 (ix4 0 0 h d)) (x4 (ix3 0 h d)) + x5 (ix3 0 h d))))) := by
  pointwise [k0_pay38]; rfl

/-- The new values' codes that the last step stores, at an index. -/
theorem vcode_apply (x2 : Vec Ideal S1x1x2x128 .bf16) (h : Fin 2) (d : Fin 128) :
    vCodes (F := Ideal) x2 (ix4 0 0 h d) = Ideal.fptosi 8 (min (Ideal.ofBits .f32 0x42FE0000#32)
      (max (Ideal.ofBits .f32 0xC2FE0000#32) (Ideal.liftRound Ideal.roundHalfEven
        (Ideal.div (x2 (ix4 0 0 h d)) (rowScale fun e => x2 (ix4 0 0 h e)))))) := by
  pointwise [vCodes, k0_pay7, k0_pay6, k0_pay39, k0_pay40, k0_pay41]
  rw [ofBits_ninf, fold_max]; rfl

/-- The new values' scales that the last step stores, at an index. -/
theorem vscale_apply (x2 : Vec Ideal S1x1x2x128 .bf16) (h : Fin 2) :
    vScales (F := Ideal) x2 (ix3 0 0 h) = rowScale fun e => x2 (ix4 0 0 h e) := by
  unfold vScales
  canon_tiles x hh
  · obtain ⟨a, b, e, rfl⟩ : ∃ (a b e : Fin 1), x = ix3 a b e := ⟨x 0, x 1, x 2, eq_ix3 x⟩
    have he : h = 1 := Fin.ext (by have : h.val = 1 + e.val := hh2; omega)
    subst he
    pointwise [k0_pay9, k0_pay6, k0_pay40, k0_pay41, k0_pay39]
    rw [ofBits_ninf, fold_max]; rfl
  · obtain ⟨a, b, e, rfl⟩ : ∃ (a b e : Fin 1), x = ix3 a b e := ⟨x 0, x 1, x 2, eq_ix3 x⟩
    have he : h = 0 := Fin.ext (by have : h.val = e.val := hh2; omega)
    subst he
    pointwise [k0_pay8, k0_pay6, k0_pay40, k0_pay41, k0_pay39]
    rw [ofBits_ninf, fold_max]; rfl

end Cert.KernelIdeal.Gen
end
-- ==== Proof.Reads.lean ====
module

public import proofs.«01_k».proof.Proof.Block
public import proofs.«01_k».proof.Proof.OkIdeal

/-! What each point reads: its windows' blocks and its length word, as places of the argument arrays. -/

@[expose] public section

set_option maxRecDepth 16384

noncomputable section

namespace Cert.KernelIdeal.Gen

open Idealize.ShloMosaic Idealize.ShloMosaic.TcCoe Idealize.ShloMosaic.Tactic
open Cert.Own Cert.Own.Softmax Cert.Own.Words

variable (m : (ℓ : Loc nD τ sig) → Buf (Elt Ideal) ℓ)

/-- The side condition of this memory's table. -/
abbrev hO : Ok m := ok_all _

/-- A grid point's batch coordinate. -/
theorem coords0 : ∀ t : Fin grid0.N, (grid0.coords t 0).val = t.val / 8 := by decide +kernel
/-- A grid point's block coordinate. -/
theorem coords1 : ∀ t : Fin grid0.N, (grid0.coords t 1).val = t.val % 8 := by decide +kernel

/-- A point's batch and its block of positions. -/
abbrev bOf (t : Fin grid0.N) : Fin 4 := ⟨t.val / 8, by have := t.isLt; have : grid0.N = 32 := N_0; omega⟩
/-- The block of a grid point within its batch. -/
abbrev jOf (t : Fin grid0.N) : Fin 8 := ⟨t.val % 8, by omega⟩

/-- The argument arrays of a device. -/
abbrev aX (c : Dev nD) : Vec Ideal S4x1x16x128 .bf16 := m ((c.tc : Thread nD τ).loc main_arg0)
/-- The new keys. -/
abbrev aK (c : Dev nD) : Vec Ideal S4x1x2x128 .bf16 := m ((c.tc : Thread nD τ).loc main_arg1)
/-- The new values. -/
abbrev aV (c : Dev nD) : Vec Ideal S4x1x2x128 .bf16 := m ((c.tc : Thread nD τ).loc main_arg2)
/-- The cached keys' codes. -/
abbrev aCk (c : Dev nD) : Vec Ideal S4x32768x2x128 .i8 := m ((c.tc : Thread nD τ).loc main_arg3)
/-- The cached keys' scales. -/
abbrev aSc (c : Dev nD) : Vec Ideal S4x2x128 .f32 := m ((c.tc : Thread nD τ).loc main_arg4)
/-- The cached keys' zero points. -/
abbrev aZp (c : Dev nD) : Vec Ideal S4x2x128 .f32 := m ((c.tc : Thread nD τ).loc main_arg5)
/-- The cached values' codes. -/
abbrev aCv (c : Dev nD) : Vec Ideal S4x32768x2x128 .i8 := m ((c.tc : Thread nD τ).loc main_arg6)
/-- The cached values' scales. -/
abbrev aVs (c : Dev nD) : Vec Ideal S4x32768x2 .f32 := m ((c.tc : Thread nD τ).loc main_arg7)
/-- The cache lengths. -/
abbrev aLen (c : Dev nD) : Vec Ideal S4 .i32 := m ((c.tc : Thread nD τ).loc main_arg8)

/-- The queries' block at a grid point is the batch's queries. -/
theorem blk0 (c : Dev nD) (t : Fin grid0.N) (r : Fin 16) (e : Fin 128) :
    (iblk m (hO m) c 0 t : Vec Ideal S1x1x16x128 .bf16) (ix4 0 0 r e) = aX m c (ix4 (bOf t) 0 r e) := by
  have h0 := coord0 (grid0.coords t); rw [coords0] at h0
  refine Eq.trans ?_ (congrFun (V_main_arg0 m c) _)
  refine congrArg (V m c main_arg0) (funext fun (a : Fin 4) => Fin.ext ?_)
  refine (Pipeline.Window.rect_emb_val _ _ _ _).trans ?_
  match a with
  | 0 => show (BitVec.ofNat 32 (grid0.coords t 0).val).toNat * 1 + 0 = t.val / 8; rw [coords0]; omega
  | 1 => rfl
  | 2 => exact (congrArg (· + _) (Nat.zero_mul _)).trans (Nat.zero_add _)
  | 3 => exact (congrArg (· + _) (Nat.zero_mul _)).trans (Nat.zero_add _)

/-- The new keys' block at a grid point is the batch's new keys. -/
theorem blk1 (c : Dev nD) (t : Fin grid0.N) (h : Fin 2) (e : Fin 128) :
    (iblk m (hO m) c 1 t : Vec Ideal S1x1x2x128 .bf16) (ix4 0 0 h e) = aK m c (ix4 (bOf t) 0 h e) := by
  have h0 := coord0 (grid0.coords t); rw [coords0] at h0
  refine Eq.trans ?_ (congrFun (V_main_arg1 m c) _)
  refine congrArg (V m c main_arg1) (funext fun (a : Fin 4) => Fin.ext ?_)
  refine (Pipeline.Window.rect_emb_val _ _ _ _).trans ?_
  match a with
  | 0 => show (BitVec.ofNat 32 (grid0.coords t 0).val).toNat * 1 + 0 = t.val / 8; rw [coords0]; omega
  | 1 => rfl
  | 2 => exact (congrArg (· + _) (Nat.zero_mul _)).trans (Nat.zero_add _)
  | 3 => exact (congrArg (· + _) (Nat.zero_mul _)).trans (Nat.zero_add _)

/-- The new values' block at a grid point is the batch's new values. -/
theorem blk2 (c : Dev nD) (t : Fin grid0.N) (h : Fin 2) (e : Fin 128) :
    (iblk m (hO m) c 2 t : Vec Ideal S1x1x2x128 .bf16) (ix4 0 0 h e) = aV m c (ix4 (bOf t) 0 h e) := by
  have h0 := coord0 (grid0.coords t); rw [coords0] at h0
  refine Eq.trans ?_ (congrFun (V_main_arg2 m c) _)
  refine congrArg (V m c main_arg2) (funext fun (a : Fin 4) => Fin.ext ?_)
  refine (Pipeline.Window.rect_emb_val _ _ _ _).trans ?_
  match a with
  | 0 => show (BitVec.ofNat 32 (grid0.coords t 0).val).toNat * 1 + 0 = t.val / 8; rw [coords0]; omega
  | 1 => rfl
  | 2 => exact (congrArg (· + _) (Nat.zero_mul _)).trans (Nat.zero_add _)
  | 3 => exact (congrArg (· + _) (Nat.zero_mul _)).trans (Nat.zero_add _)

/-- The block of key scales at a grid point is the batch's. -/
theorem blk4 (c : Dev nD) (t : Fin grid0.N) (h : Fin 2) (e : Fin 128) :
    (iblk m (hO m) c 4 t : Vec Ideal S1x2x128 .f32) (ix3 0 h e) = aSc m c (ix3 (bOf t) h e) := by
  have h0 := coord0 (grid0.coords t); rw [coords0] at h0
  refine Eq.trans ?_ (congrFun (V_main_arg4 m c) _)
  refine congrArg (V m c main_arg4) (funext fun (a : Fin 3) => Fin.ext ?_)
  refine (Pipeline.Window.rect_emb_val _ _ _ _).trans ?_
  match a with
  | 0 => show (BitVec.ofNat 32 (grid0.coords t 0).val).toNat * 1 + 0 = t.val / 8; rw [coords0]; omega
  | 1 => exact (congrArg (· + _) (Nat.zero_mul _)).trans (Nat.zero_add _)
  | 2 => exact (congrArg (· + _) (Nat.zero_mul _)).trans (Nat.zero_add _)

/-- The block of key zero points at a grid point is the batch's. -/
theorem blk5 (c : Dev nD) (t : Fin grid0.N) (h : Fin 2) (e : Fin 128) :
    (iblk m (hO m) c 5 t : Vec Ideal S1x2x128 .f32) (ix3 0 h e) = aZp m c (ix3 (bOf t) h e) := by
  have h0 := coord0 (grid0.coords t); rw [coords0] at h0
  refine Eq.trans ?_ (congrFun (V_main_arg5 m c) _)
  refine congrArg (V m c main_arg5) (funext fun (a : Fin 3) => Fin.ext ?_)
  refine (Pipeline.Window.rect_emb_val _ _ _ _).trans ?_
  match a with
  | 0 => show (BitVec.ofNat 32 (grid0.coords t 0).val).toNat * 1 + 0 = t.val / 8; rw [coords0]; omega
  | 1 => exact (congrArg (· + _) (Nat.zero_mul _)).trans (Nat.zero_add _)
  | 2 => exact (congrArg (· + _) (Nat.zero_mul _)).trans (Nat.zero_add _)

/-- The length the body reads at a grid point is the batch's. -/
theorem lenOf_eq (c : Dev nD) (t : Fin grid0.N)  :
    lenOf (F := Ideal) c (grid0.coords t) (tbl m 0) = aLen m c (ix1 (bOf t)) := by
  have h0 := coord0 (grid0.coords t); rw [coords0] at h0
  obtain rfl : c = 0 := Subsingleton.elim _ _
  refine Eq.trans ?_ (congrFun (V_main_arg8 m 0) _)
  refine congrArg (V m 0 main_arg8) (funext fun (a : Fin 1) => Fin.ext ?_)
  match a with
  | 0 => show (BitVec.ofNat 32 (grid0.coords t 0).val).toNat + 0 = t.val / 8; rw [coords0]; omega

/-- The length the index maps read at a grid point is the batch's. -/
theorem lenWord_eq (c : Dev nD) (t : Fin grid0.N)  :
    lenWord (F := Ideal) (tbl m) (grid0.coords t) = aLen m c (ix1 (bOf t)) := by
  have h0 := coord0 (grid0.coords t); rw [coords0] at h0
  obtain rfl : c = 0 := Subsingleton.elim _ _
  refine Eq.trans ?_ (congrFun (V_main_arg8 m 0) _)
  refine congrArg (V m 0 main_arg8) (funext fun (a : Fin 1) => Fin.ext ?_)
  match a with
  | 0 => show (BitVec.ofNat 32 (grid0.coords t 0).val).toNat + 0 = t.val / 8; rw [coords0]; omega

/-- A point is live when its block begins before the batch's length. -/
theorem live_at (c : Dev nD) (t : Fin grid0.N) :
    cond0_1 (grid0.coords t) (lenOf (F := Ideal) c (grid0.coords t) (tbl m 0)) ↔
      (4096 * (t.val % 8 : ℕ) : ℤ) < (aLen m c (ix1 (bOf t))).toInt := by
  have h1 := coord1 (grid0.coords t)
  rw [lenOf_eq, ← coords1, ← h1.1]
  exact live_iff _ _ (by omega)

/-- The block of positions that a live point's cache windows take is its own. -/
theorem blkWord_at (c : Dev nD) (t : Fin grid0.N) (h : (4096 * (t.val % 8 : ℕ) : ℤ) < (aLen m c (ix1 (bOf t))).toInt) :
    (blkWord (BitVec.ofNat 32 (grid0.coords t 1).val) (lenWord (F := Ideal) (tbl m) (grid0.coords t))).toNat = t.val % 8 := by
  have h1 := coord1 (grid0.coords t)
  rw [lenWord_eq m c, blkWord_live _ _ (by omega) (by rw [h1.1, coords1]; exact h), h1.1, coords1]

/-- The transposed cached keys' codes, read at an index. -/
theorem V_v0 (c : Dev nD) (b : Fin 4) (h : Fin 2) (y : Fin 32768) (e : Fin 128) :
    (V m c main_v0 : Vec Ideal S4x2x32768x128 .i8) (ix4 b h y e) = aCk m c (ix4 b y h e) := by
  entry_read
  pointwise

/-- At a live point the block of cached keys is the batch's block of codes. -/
theorem blk3 (c : Dev nD) (t : Fin grid0.N) (h : Fin 2) (y : Fin 4096) (e : Fin 128)
    (hl : (4096 * (t.val % 8 : ℕ) : ℤ) < (aLen m c (ix1 (bOf t))).toInt) :
    (iblk m (hO m) c 3 t : Vec Ideal S1x2x4096x128 .i8) (ix4 0 h y e) = aCk m c (ix4 (bOf t) (pos (jOf t) y) h e) := by
  have h0 := coord0 (grid0.coords t); rw [coords0] at h0
  have hw := blkWord_at m c t hl
  refine Eq.trans ?_ (V_v0 m c _ _ _ _)
  refine congrArg (V m c main_v0) (funext fun (a : Fin 4) => Fin.ext ?_)
  refine (Pipeline.Window.rect_emb_val _ _ _ _).trans ?_
  match a with
  | 0 => show (BitVec.ofNat 32 (grid0.coords t 0).val).toNat * 1 + 0 = t.val / 8; rw [coords0]; omega
  | 1 => exact (congrArg (· + _) (Nat.zero_mul _)).trans (Nat.zero_add _)
  | 2 => show (blkWord (BitVec.ofNat 32 (grid0.coords t 1).val) (lenWord (F := Ideal) (tbl m) (grid0.coords t))).toNat * 4096 + y.val = 4096 * (t.val % 8) + y.val; rw [hw]; omega
  | 3 => exact (congrArg (· + _) (Nat.zero_mul _)).trans (Nat.zero_add _)

/-- The transposed cached values' codes, read at an index. -/
theorem V_v1 (c : Dev nD) (b : Fin 4) (h : Fin 2) (y : Fin 32768) (e : Fin 128) :
    (V m c main_v1 : Vec Ideal S4x2x32768x128 .i8) (ix4 b h y e) = aCv m c (ix4 b y h e) := by
  entry_read
  pointwise

/-- At a live point the block of cached values is the batch's block of codes. -/
theorem blk6 (c : Dev nD) (t : Fin grid0.N) (h : Fin 2) (y : Fin 4096) (e : Fin 128)
    (hl : (4096 * (t.val % 8 : ℕ) : ℤ) < (aLen m c (ix1 (bOf t))).toInt) :
    (iblk m (hO m) c 6 t : Vec Ideal S1x2x4096x128 .i8) (ix4 0 h y e) = aCv m c (ix4 (bOf t) (pos (jOf t) y) h e) := by
  have h0 := coord0 (grid0.coords t); rw [coords0] at h0
  have hw := blkWord_at m c t hl
  refine Eq.trans ?_ (V_v1 m c _ _ _ _)
  refine congrArg (V m c main_v1) (funext fun (a : Fin 4) => Fin.ext ?_)
  refine (Pipeline.Window.rect_emb_val _ _ _ _).trans ?_
  match a with
  | 0 => show (BitVec.ofNat 32 (grid0.coords t 0).val).toNat * 1 + 0 = t.val / 8; rw [coords0]; omega
  | 1 => exact (congrArg (· + _) (Nat.zero_mul _)).trans (Nat.zero_add _)
  | 2 => show (blkWord (BitVec.ofNat 32 (grid0.coords t 1).val) (lenWord (F := Ideal) (tbl m) (grid0.coords t))).toNat * 4096 + y.val = 4096 * (t.val % 8) + y.val; rw [hw]; omega
  | 3 => exact (congrArg (· + _) (Nat.zero_mul _)).trans (Nat.zero_add _)

/-- The transposed cached values' scales, read at an index. -/
theorem V_v2 (c : Dev nD) (b : Fin 4) (h : Fin 2) (y : Fin 32768) :
    (V m c main_v2 : Vec Ideal S4x2x32768 .f32) (ix3 b h y) = aVs m c (ix3 b y h) := by
  entry_read
  pointwise

/-- At a live point the block of value scales is the batch's. -/
theorem blk7 (c : Dev nD) (t : Fin grid0.N) (h : Fin 2) (y : Fin 4096)
    (hl : (4096 * (t.val % 8 : ℕ) : ℤ) < (aLen m c (ix1 (bOf t))).toInt) :
    (iblk m (hO m) c 7 t : Vec Ideal S1x2x4096 .f32) (ix3 0 h y) = aVs m c (ix3 (bOf t) (pos (jOf t) y) h) := by
  have h0 := coord0 (grid0.coords t); rw [coords0] at h0
  have hw := blkWord_at m c t hl
  refine Eq.trans ?_ (V_v2 m c _ _ _)
  refine congrArg (V m c main_v2) (funext fun (a : Fin 3) => Fin.ext ?_)
  refine (Pipeline.Window.rect_emb_val _ _ _ _).trans ?_
  match a with
  | 0 => show (BitVec.ofNat 32 (grid0.coords t 0).val).toNat * 1 + 0 = t.val / 8; rw [coords0]; omega
  | 1 => exact (congrArg (· + _) (Nat.zero_mul _)).trans (Nat.zero_add _)
  | 2 => show (blkWord (BitVec.ofNat 32 (grid0.coords t 1).val) (lenWord (F := Ideal) (tbl m) (grid0.coords t))).toNat * 4096 + y.val = 4096 * (t.val % 8) + y.val; rw [hw]; omega

end Cert.KernelIdeal.Gen
end
-- ==== Proof.State.lean ====
module

public import proofs.«01_k».proof.Proof.Cases
public import proofs.«01_k».proof.Proof.Reads

/-! The running state and the written blocks at each point, by induction over a batch's eight points. -/

@[expose] public section

set_option maxRecDepth 16384

noncomputable section

namespace Cert.KernelIdeal.Gen

open Idealize.ShloMosaic Idealize.ShloMosaic.TcCoe Idealize.ShloMosaic.Tactic
open Cert.Own Cert.Own.Softmax Cert.Own.Words

section Parts
variable {α β γ δ ε ζ η : Type} {z : α × β × γ × δ × ε × ζ × η} {x1 : α} {x2 : β} {x3 : γ} {x4 : δ} {x5 : ε} {x6 : ζ} {x7 : η}
/-- The first part of a tuple. -/
theorem o1 (e : z = (x1, x2, x3, x4, x5, x6, x7)) : z.1 = x1 := by rw [e]
/-- The second part of a tuple. -/
theorem o2 (e : z = (x1, x2, x3, x4, x5, x6, x7)) : z.2.1 = x2 := by rw [e]
/-- The third part of a tuple. -/
theorem o3 (e : z = (x1, x2, x3, x4, x5, x6, x7)) : z.2.2.1 = x3 := by rw [e]
/-- The fourth part of a tuple. -/
theorem o4 (e : z = (x1, x2, x3, x4, x5, x6, x7)) : z.2.2.2.1 = x4 := by rw [e]
/-- The fifth part of a tuple. -/
theorem o5 (e : z = (x1, x2, x3, x4, x5, x6, x7)) : z.2.2.2.2.1 = x5 := by rw [e]
/-- The sixth part of a tuple. -/
theorem o6 (e : z = (x1, x2, x3, x4, x5, x6, x7)) : z.2.2.2.2.2.1 = x6 := by rw [e]
/-- The last part of a tuple. -/
theorem o7 (e : z = (x1, x2, x3, x4, x5, x6, x7)) : z.2.2.2.2.2.2 = x7 := by rw [e]
end Parts

variable (m : (ℓ : Loc nD τ sig) → Buf (Elt Ideal) ℓ) (c : Dev nD)

/-- The score of batch `b`'s query row `r` with the cached key at position `t`. -/
def score (b : Fin 4) (r : Fin 16) (t : Fin 32768) : EReal :=
  (∑ e : Fin 128, aX m c (ix4 b 0 r e) *
    ((num (aCk m c (ix4 b t (hd r) e)) - aZp m c (ix3 b (hd r) e)) * aSc m c (ix3 b (hd r) e))) * SC

/-- The scale of a cached value row. -/
def wgt (b : Fin 4) (h : Fin 2) (t : Fin 32768) : EReal := aVs m c (ix3 b t h)

/-- An entry of a cached value row, as a number. -/
def vval (b : Fin 4) (h : Fin 2) (d : Fin 128) (t : Fin 32768) : EReal := num (aCv m c (ix4 b t h d))

/-- The state of batch `b` after the blocks before `j`. -/
abbrev StAt (b : Fin 4) (j : ℕ) (M L A : Vec Ideal S16x128 .f32) : Prop :=
  St j (aLen m c (ix1 b)) (score m c b) (wgt m c b) (vval m c b) M L A

/-- A dead block leaves the state. -/
theorem St.dead {j : ℕ} {n : BitVec 32} {s : Fin 16 → Fin 32768 → EReal} {w : Fin 2 → Fin 32768 → EReal}
    {c : Fin 2 → Fin 128 → Fin 32768 → EReal} {M L A : Vec Ideal S16x128 .f32} (st : St j n s w c M L A)
    (h : ¬ (4096 * (j : ℕ) : ℤ) < n.toInt) : St (j + 1) n s w c M L A := by
  have e : upto (j + 1) n = upto j n := upto_dead j n (not_lt.mp h)
  exact ⟨fun r d => by rw [e]; exact st.max r d, fun r d => by rw [e]; exact st.sum r d, fun r d => by rw [e]; exact st.acc r d⟩

/-- The state of equal buffers. -/
theorem St.congr {j : ℕ} {n : BitVec 32} {s : Fin 16 → Fin 32768 → EReal} {w : Fin 2 → Fin 32768 → EReal}
    {c : Fin 2 → Fin 128 → Fin 32768 → EReal} {M L A M' L' A' : Vec Ideal S16x128 .f32} (st : St j n s w c M' L' A')
    (hM : M = M') (hL : L = L') (hA : A = A') : St j n s w c M L A := by subst hM hL hA; exact st

variable (t : Fin grid0.N)

/-- A live point carries the state forward. -/
theorem step_at {M L A : Vec Ideal S16x128 .f32} (hl : (4096 * (t.val % 8 : ℕ) : ℤ) < (aLen m c (ix1 (bOf t))).toInt)
    (st : StAt m c (bOf t) (t.val % 8) M L A) :
    StAt m c (bOf t) (t.val % 8 + 1)
      (newM (BitVec.ofNat 32 (grid0.coords t 1).val) (lenOf (F := Ideal) c (grid0.coords t) (tbl m 0))
        (iblk m (hO m) c 0 t) (iblk m (hO m) c 3 t) (iblk m (hO m) c 4 t) (iblk m (hO m) c 5 t) M)
      (newL (BitVec.ofNat 32 (grid0.coords t 1).val) (lenOf (F := Ideal) c (grid0.coords t) (tbl m 0))
        (iblk m (hO m) c 0 t) (iblk m (hO m) c 3 t) (iblk m (hO m) c 4 t) (iblk m (hO m) c 5 t) M L)
      (newA (BitVec.ofNat 32 (grid0.coords t 1).val) (lenOf (F := Ideal) c (grid0.coords t) (tbl m 0))
        (iblk m (hO m) c 0 t) (iblk m (hO m) c 3 t) (iblk m (hO m) c 4 t) (iblk m (hO m) c 5 t) (iblk m (hO m) c 6 t)
        (iblk m (hO m) c 7 t) M A) := by
  rw [lenOf_eq, coords1]
  refine St.step (j := jOf t) ?_ (fun h x => blk7 m c t h x hl) (fun h d x => congrArg num (blk6 m c t h x d hl)) st
  intro r x
  refine congrArg (· * SC) (Finset.sum_congr rfl fun e _ => ?_)
  rw [← blk0, ← blk3 m c t _ _ _ hl, ← blk5, ← blk4]

/-- After a batch's first point, the state over its first block. -/
theorem state_first (h0 : t.val % 8 = 0) :
    StAt m c (bOf t) (t.val % 8 + 1) (outsAt0 m (hO m) c t.val t.isLt).2.2.2.2.1 (outsAt0 m (hO m) c t.val t.isLt).2.2.2.2.2.1 (outsAt0 m (hO m) c t.val t.isLt).2.2.2.2.2.2 := by
  have h2 : ¬ t.val % 8 = 7 := by omega
  have ini : StAt m c (bOf t) (t.val % 8) (k0_pay1 (F := Ideal)) (k0_pay2 (F := Ideal)) (k0_pay3 (F := Ideal)) := by
    rw [h0]; exact St.init _ _ _ _
  by_cases h1 : cond0_1 (grid0.coords t) (lenOf (F := Ideal) c (grid0.coords t) (tbl m 0))
  · have hl := (live_at m c t).mp h1
    have e := outsAt0_A m (hO m) c t h0 h1 h2
    exact St.congr (step_at m c t hl ini)
      ((o5 e).trans (sout0_A_0_eq c (grid0.coords t) (ms0_0 m (hO m) t) (hs0_0 m (hO m) t) (ms0_1 m (hO m) t) (hs0_1 m (hO m) t) (ms0_2 m (hO m) t) (hs0_2 m (hO m) t) (ms0_3 m (hO m) t) (hs0_3 m (hO m) t) (ms0_4 m (hO m) t) (hs0_4 m (hO m) t) (ms0_5 m (hO m) t) (hs0_5 m (hO m) t) (ms0_6 m (hO m) t) (hs0_6 m (hO m) t) (ms0_7 m (hO m) t) (hs0_7 m (hO m) t) (ms0_8 m (hO m) t) (hs0_8 m (hO m) t) (ms0_9 m (hO m) t) (hs0_9 m (hO m) t) (ms0_10 m (hO m) t) (hs0_10 m (hO m) t) (ms0_11 m (hO m) t) (hs0_11 m (hO m) t) scM0_0 (Memref.isWhole_whole _) scM0_1 (Memref.isWhole_whole _) scM0_2 (Memref.isWhole_whole _) ((hcond0_0 t).mpr h0) (fun h => h2 ((hcond0_2 t).mp h)) (iblk m (hO m) c 0 t) (iblk m (hO m) c 1 t) (iblk m (hO m) c 2 t) (iblk m (hO m) c 3 t) (iblk m (hO m) c 4 t) (iblk m (hO m) c 5 t) (iblk m (hO m) c 6 t) (iblk m (hO m) c 7 t) (tbl m 0) h1))
      ((o6 e).trans (sout0_A_1_eq c (grid0.coords t) (ms0_0 m (hO m) t) (hs0_0 m (hO m) t) (ms0_1 m (hO m) t) (hs0_1 m (hO m) t) (ms0_2 m (hO m) t) (hs0_2 m (hO m) t) (ms0_3 m (hO m) t) (hs0_3 m (hO m) t) (ms0_4 m (hO m) t) (hs0_4 m (hO m) t) (ms0_5 m (hO m) t) (hs0_5 m (hO m) t) (ms0_6 m (hO m) t) (hs0_6 m (hO m) t) (ms0_7 m (hO m) t) (hs0_7 m (hO m) t) (ms0_8 m (hO m) t) (hs0_8 m (hO m) t) (ms0_9 m (hO m) t) (hs0_9 m (hO m) t) (ms0_10 m (hO m) t) (hs0_10 m (hO m) t) (ms0_11 m (hO m) t) (hs0_11 m (hO m) t) scM0_0 (Memref.isWhole_whole _) scM0_1 (Memref.isWhole_whole _) scM0_2 (Memref.isWhole_whole _) ((hcond0_0 t).mpr h0) (fun h => h2 ((hcond0_2 t).mp h)) (iblk m (hO m) c 0 t) (iblk m (hO m) c 1 t) (iblk m (hO m) c 2 t) (iblk m (hO m) c 3 t) (iblk m (hO m) c 4 t) (iblk m (hO m) c 5 t) (iblk m (hO m) c 6 t) (iblk m (hO m) c 7 t) (tbl m 0) h1))
      ((o7 e).trans (sout0_A_2_eq c (grid0.coords t) (ms0_0 m (hO m) t) (hs0_0 m (hO m) t) (ms0_1 m (hO m) t) (hs0_1 m (hO m) t) (ms0_2 m (hO m) t) (hs0_2 m (hO m) t) (ms0_3 m (hO m) t) (hs0_3 m (hO m) t) (ms0_4 m (hO m) t) (hs0_4 m (hO m) t) (ms0_5 m (hO m) t) (hs0_5 m (hO m) t) (ms0_6 m (hO m) t) (hs0_6 m (hO m) t) (ms0_7 m (hO m) t) (hs0_7 m (hO m) t) (ms0_8 m (hO m) t) (hs0_8 m (hO m) t) (ms0_9 m (hO m) t) (hs0_9 m (hO m) t) (ms0_10 m (hO m) t) (hs0_10 m (hO m) t) (ms0_11 m (hO m) t) (hs0_11 m (hO m) t) scM0_0 (Memref.isWhole_whole _) scM0_1 (Memref.isWhole_whole _) scM0_2 (Memref.isWhole_whole _) ((hcond0_0 t).mpr h0) (fun h => h2 ((hcond0_2 t).mp h)) (iblk m (hO m) c 0 t) (iblk m (hO m) c 1 t) (iblk m (hO m) c 2 t) (iblk m (hO m) c 3 t) (iblk m (hO m) c 4 t) (iblk m (hO m) c 5 t) (iblk m (hO m) c 6 t) (iblk m (hO m) c 7 t) (tbl m 0) h1))
  · have hl := fun h => h1 ((live_at m c t).mpr h)
    have e := outsAt0_B m (hO m) c t h0 h1 h2
    exact St.congr (ini.dead hl)
      ((o5 e).trans (sout0_B_0_eq c (grid0.coords t) (ms0_0 m (hO m) t) (hs0_0 m (hO m) t) (ms0_1 m (hO m) t) (hs0_1 m (hO m) t) (ms0_2 m (hO m) t) (hs0_2 m (hO m) t) (ms0_3 m (hO m) t) (hs0_3 m (hO m) t) (ms0_4 m (hO m) t) (hs0_4 m (hO m) t) (ms0_5 m (hO m) t) (hs0_5 m (hO m) t) (ms0_6 m (hO m) t) (hs0_6 m (hO m) t) (ms0_7 m (hO m) t) (hs0_7 m (hO m) t) (ms0_8 m (hO m) t) (hs0_8 m (hO m) t) (ms0_9 m (hO m) t) (hs0_9 m (hO m) t) (ms0_10 m (hO m) t) (hs0_10 m (hO m) t) (ms0_11 m (hO m) t) (hs0_11 m (hO m) t) scM0_0 (Memref.isWhole_whole _) scM0_1 (Memref.isWhole_whole _) scM0_2 (Memref.isWhole_whole _) ((hcond0_0 t).mpr h0) (fun h => h2 ((hcond0_2 t).mp h)) (iblk m (hO m) c 0 t) (iblk m (hO m) c 1 t) (iblk m (hO m) c 2 t) (iblk m (hO m) c 3 t) (iblk m (hO m) c 4 t) (iblk m (hO m) c 5 t) (iblk m (hO m) c 6 t) (iblk m (hO m) c 7 t) (tbl m 0) h1))
      ((o6 e).trans (sout0_B_1_eq c (grid0.coords t) (ms0_0 m (hO m) t) (hs0_0 m (hO m) t) (ms0_1 m (hO m) t) (hs0_1 m (hO m) t) (ms0_2 m (hO m) t) (hs0_2 m (hO m) t) (ms0_3 m (hO m) t) (hs0_3 m (hO m) t) (ms0_4 m (hO m) t) (hs0_4 m (hO m) t) (ms0_5 m (hO m) t) (hs0_5 m (hO m) t) (ms0_6 m (hO m) t) (hs0_6 m (hO m) t) (ms0_7 m (hO m) t) (hs0_7 m (hO m) t) (ms0_8 m (hO m) t) (hs0_8 m (hO m) t) (ms0_9 m (hO m) t) (hs0_9 m (hO m) t) (ms0_10 m (hO m) t) (hs0_10 m (hO m) t) (ms0_11 m (hO m) t) (hs0_11 m (hO m) t) scM0_0 (Memref.isWhole_whole _) scM0_1 (Memref.isWhole_whole _) scM0_2 (Memref.isWhole_whole _) ((hcond0_0 t).mpr h0) (fun h => h2 ((hcond0_2 t).mp h)) (iblk m (hO m) c 0 t) (iblk m (hO m) c 1 t) (iblk m (hO m) c 2 t) (iblk m (hO m) c 3 t) (iblk m (hO m) c 4 t) (iblk m (hO m) c 5 t) (iblk m (hO m) c 6 t) (iblk m (hO m) c 7 t) (tbl m 0) h1))
      ((o7 e).trans (sout0_B_2_eq c (grid0.coords t) (ms0_0 m (hO m) t) (hs0_0 m (hO m) t) (ms0_1 m (hO m) t) (hs0_1 m (hO m) t) (ms0_2 m (hO m) t) (hs0_2 m (hO m) t) (ms0_3 m (hO m) t) (hs0_3 m (hO m) t) (ms0_4 m (hO m) t) (hs0_4 m (hO m) t) (ms0_5 m (hO m) t) (hs0_5 m (hO m) t) (ms0_6 m (hO m) t) (hs0_6 m (hO m) t) (ms0_7 m (hO m) t) (hs0_7 m (hO m) t) (ms0_8 m (hO m) t) (hs0_8 m (hO m) t) (ms0_9 m (hO m) t) (hs0_9 m (hO m) t) (ms0_10 m (hO m) t) (hs0_10 m (hO m) t) (ms0_11 m (hO m) t) (hs0_11 m (hO m) t) scM0_0 (Memref.isWhole_whole _) scM0_1 (Memref.isWhole_whole _) scM0_2 (Memref.isWhole_whole _) ((hcond0_0 t).mpr h0) (fun h => h2 ((hcond0_2 t).mp h)) (iblk m (hO m) c 0 t) (iblk m (hO m) c 1 t) (iblk m (hO m) c 2 t) (iblk m (hO m) c 3 t) (iblk m (hO m) c 4 t) (iblk m (hO m) c 5 t) (iblk m (hO m) c 6 t) (iblk m (hO m) c 7 t) (tbl m 0) h1))

/-- A point between a batch's first and last carries the state over its block. -/
theorem state_mid (h0 : ¬ t.val % 8 = 0) (h2 : ¬ t.val % 8 = 7)
    (st : StAt m c (bOf t) (t.val % 8) (outsAt0 m (hO m) c (t.val - 1) (Nat.lt_of_le_of_lt (Nat.sub_le _ _) t.isLt)).2.2.2.2.1
      (outsAt0 m (hO m) c (t.val - 1) (Nat.lt_of_le_of_lt (Nat.sub_le _ _) t.isLt)).2.2.2.2.2.1
      (outsAt0 m (hO m) c (t.val - 1) (Nat.lt_of_le_of_lt (Nat.sub_le _ _) t.isLt)).2.2.2.2.2.2) :
    StAt m c (bOf t) (t.val % 8 + 1) (outsAt0 m (hO m) c t.val t.isLt).2.2.2.2.1 (outsAt0 m (hO m) c t.val t.isLt).2.2.2.2.2.1 (outsAt0 m (hO m) c t.val t.isLt).2.2.2.2.2.2 := by
  by_cases h1 : cond0_1 (grid0.coords t) (lenOf (F := Ideal) c (grid0.coords t) (tbl m 0))
  · have hl := (live_at m c t).mp h1
    have e := outsAt0_C m (hO m) c t h0 h1 h2
    exact St.congr (step_at m c t hl st)
      ((o5 e).trans (sout0_C_0_eq c (grid0.coords t) (ms0_0 m (hO m) t) (hs0_0 m (hO m) t) (ms0_1 m (hO m) t) (hs0_1 m (hO m) t) (ms0_2 m (hO m) t) (hs0_2 m (hO m) t) (ms0_3 m (hO m) t) (hs0_3 m (hO m) t) (ms0_4 m (hO m) t) (hs0_4 m (hO m) t) (ms0_5 m (hO m) t) (hs0_5 m (hO m) t) (ms0_6 m (hO m) t) (hs0_6 m (hO m) t) (ms0_7 m (hO m) t) (hs0_7 m (hO m) t) (ms0_8 m (hO m) t) (hs0_8 m (hO m) t) (ms0_9 m (hO m) t) (hs0_9 m (hO m) t) (ms0_10 m (hO m) t) (hs0_10 m (hO m) t) (ms0_11 m (hO m) t) (hs0_11 m (hO m) t) scM0_0 (Memref.isWhole_whole _) scM0_1 (Memref.isWhole_whole _) scM0_2 (Memref.isWhole_whole _) (fun h => h0 ((hcond0_0 t).mp h)) (fun h => h2 ((hcond0_2 t).mp h)) (iblk m (hO m) c 0 t) (iblk m (hO m) c 1 t) (iblk m (hO m) c 2 t) (iblk m (hO m) c 3 t) (iblk m (hO m) c 4 t) (iblk m (hO m) c 5 t) (iblk m (hO m) c 6 t) (iblk m (hO m) c 7 t) (tbl m 0) (outsAt0 m (hO m) c (t.val - 1) (Nat.lt_of_le_of_lt (Nat.sub_le _ _) t.isLt)).2.2.2.2.1 (outsAt0 m (hO m) c (t.val - 1) (Nat.lt_of_le_of_lt (Nat.sub_le _ _) t.isLt)).2.2.2.2.2.1 (outsAt0 m (hO m) c (t.val - 1) (Nat.lt_of_le_of_lt (Nat.sub_le _ _) t.isLt)).2.2.2.2.2.2 h1))
      ((o6 e).trans (sout0_C_1_eq c (grid0.coords t) (ms0_0 m (hO m) t) (hs0_0 m (hO m) t) (ms0_1 m (hO m) t) (hs0_1 m (hO m) t) (ms0_2 m (hO m) t) (hs0_2 m (hO m) t) (ms0_3 m (hO m) t) (hs0_3 m (hO m) t) (ms0_4 m (hO m) t) (hs0_4 m (hO m) t) (ms0_5 m (hO m) t) (hs0_5 m (hO m) t) (ms0_6 m (hO m) t) (hs0_6 m (hO m) t) (ms0_7 m (hO m) t) (hs0_7 m (hO m) t) (ms0_8 m (hO m) t) (hs0_8 m (hO m) t) (ms0_9 m (hO m) t) (hs0_9 m (hO m) t) (ms0_10 m (hO m) t) (hs0_10 m (hO m) t) (ms0_11 m (hO m) t) (hs0_11 m (hO m) t) scM0_0 (Memref.isWhole_whole _) scM0_1 (Memref.isWhole_whole _) scM0_2 (Memref.isWhole_whole _) (fun h => h0 ((hcond0_0 t).mp h)) (fun h => h2 ((hcond0_2 t).mp h)) (iblk m (hO m) c 0 t) (iblk m (hO m) c 1 t) (iblk m (hO m) c 2 t) (iblk m (hO m) c 3 t) (iblk m (hO m) c 4 t) (iblk m (hO m) c 5 t) (iblk m (hO m) c 6 t) (iblk m (hO m) c 7 t) (tbl m 0) (outsAt0 m (hO m) c (t.val - 1) (Nat.lt_of_le_of_lt (Nat.sub_le _ _) t.isLt)).2.2.2.2.1 (outsAt0 m (hO m) c (t.val - 1) (Nat.lt_of_le_of_lt (Nat.sub_le _ _) t.isLt)).2.2.2.2.2.1 (outsAt0 m (hO m) c (t.val - 1) (Nat.lt_of_le_of_lt (Nat.sub_le _ _) t.isLt)).2.2.2.2.2.2 h1))
      ((o7 e).trans (sout0_C_2_eq c (grid0.coords t) (ms0_0 m (hO m) t) (hs0_0 m (hO m) t) (ms0_1 m (hO m) t) (hs0_1 m (hO m) t) (ms0_2 m (hO m) t) (hs0_2 m (hO m) t) (ms0_3 m (hO m) t) (hs0_3 m (hO m) t) (ms0_4 m (hO m) t) (hs0_4 m (hO m) t) (ms0_5 m (hO m) t) (hs0_5 m (hO m) t) (ms0_6 m (hO m) t) (hs0_6 m (hO m) t) (ms0_7 m (hO m) t) (hs0_7 m (hO m) t) (ms0_8 m (hO m) t) (hs0_8 m (hO m) t) (ms0_9 m (hO m) t) (hs0_9 m (hO m) t) (ms0_10 m (hO m) t) (hs0_10 m (hO m) t) (ms0_11 m (hO m) t) (hs0_11 m (hO m) t) scM0_0 (Memref.isWhole_whole _) scM0_1 (Memref.isWhole_whole _) scM0_2 (Memref.isWhole_whole _) (fun h => h0 ((hcond0_0 t).mp h)) (fun h => h2 ((hcond0_2 t).mp h)) (iblk m (hO m) c 0 t) (iblk m (hO m) c 1 t) (iblk m (hO m) c 2 t) (iblk m (hO m) c 3 t) (iblk m (hO m) c 4 t) (iblk m (hO m) c 5 t) (iblk m (hO m) c 6 t) (iblk m (hO m) c 7 t) (tbl m 0) (outsAt0 m (hO m) c (t.val - 1) (Nat.lt_of_le_of_lt (Nat.sub_le _ _) t.isLt)).2.2.2.2.1 (outsAt0 m (hO m) c (t.val - 1) (Nat.lt_of_le_of_lt (Nat.sub_le _ _) t.isLt)).2.2.2.2.2.1 (outsAt0 m (hO m) c (t.val - 1) (Nat.lt_of_le_of_lt (Nat.sub_le _ _) t.isLt)).2.2.2.2.2.2 h1))
  · have hl := fun h => h1 ((live_at m c t).mpr h)
    have e := outsAt0_D m (hO m) c t h0 h1 h2
    exact St.congr (st.dead hl)
      ((o5 e).trans (rfl))
      ((o6 e).trans (rfl))
      ((o7 e).trans (rfl))

/-- The state after every point but a batch's last. -/
theorem state_at : ∀ (n : ℕ) (t : Fin grid0.N), t.val = n → t.val % 8 ≠ 7 →
    StAt m c (bOf t) (t.val % 8 + 1) (outsAt0 m (hO m) c t.val t.isLt).2.2.2.2.1 (outsAt0 m (hO m) c t.val t.isLt).2.2.2.2.2.1 (outsAt0 m (hO m) c t.val t.isLt).2.2.2.2.2.2
  | 0, t, ht, _ => state_first m c t (by omega)
  | n + 1, t, ht, h7 => by
    by_cases h0 : t.val % 8 = 0
    · exact state_first m c t h0
    · refine state_mid m c t h0 h7 ?_
      have ih := state_at n ⟨t.val - 1, Nat.lt_of_le_of_lt (Nat.sub_le _ _) t.isLt⟩ (by dsimp only; omega) (by dsimp only; omega)
      have eb : bOf ⟨t.val - 1, Nat.lt_of_le_of_lt (Nat.sub_le _ _) t.isLt⟩ = bOf t := Fin.ext (by dsimp only; omega)
      have ej : (⟨t.val - 1, Nat.lt_of_le_of_lt (Nat.sub_le _ _) t.isLt⟩ : Fin grid0.N).val % 8 + 1 = t.val % 8 := by dsimp only; omega
      rw [eb, ej] at ih
      exact ih

/-- The state before a batch's last point. -/
theorem state_last (h7 : t.val % 8 = 7) :
    StAt m c (bOf t) (t.val % 8) (outsAt0 m (hO m) c (t.val - 1) (Nat.lt_of_le_of_lt (Nat.sub_le _ _) t.isLt)).2.2.2.2.1
      (outsAt0 m (hO m) c (t.val - 1) (Nat.lt_of_le_of_lt (Nat.sub_le _ _) t.isLt)).2.2.2.2.2.1
      (outsAt0 m (hO m) c (t.val - 1) (Nat.lt_of_le_of_lt (Nat.sub_le _ _) t.isLt)).2.2.2.2.2.2 := by
  have ih := state_at m c _ ⟨t.val - 1, Nat.lt_of_le_of_lt (Nat.sub_le _ _) t.isLt⟩ rfl (by dsimp only; omega)
  have eb : bOf ⟨t.val - 1, Nat.lt_of_le_of_lt (Nat.sub_le _ _) t.isLt⟩ = bOf t := Fin.ext (by dsimp only; omega)
  have ej : (⟨t.val - 1, Nat.lt_of_le_of_lt (Nat.sub_le _ _) t.isLt⟩ : Fin grid0.N).val % 8 + 1 = t.val % 8 := by dsimp only; omega
  rw [eb, ej] at ih
  exact ih

/-! ### The written blocks -/

/-- An entry of the attention output. -/
def outVal (b : Fin 4) (r : Fin 16) (d : Fin 128) : EReal :=
  soft (score m c b r) (wgt m c b (hd r)) (vval m c b (hd r) d) (upto 8 (aLen m c (ix1 b)))
    ((∑ e : Fin 128, aX m c (ix4 b 0 r e) * aK m c (ix4 b 0 (hd r) e)) * SC) (aV m c (ix4 b 0 (hd r) d))

/-- From the state over all live positions, the last step's output block is the attention output. -/
theorem fin_at {M L A : Vec Ideal S16x128 .f32} (st : StAt m c (bOf t) 8 M L A) (r : Fin 16) (d : Fin 128) :
    finO (F := Ideal) (iblk m (hO m) c 0 t) (iblk m (hO m) c 1 t) (iblk m (hO m) c 2 t) M L A (ix4 0 0 r d) = outVal m c (bOf t) r d := by
  refine (finO_apply _ _ st r d).trans ?_
  unfold outVal snew
  rw [← blk2]
  refine congrArg (fun z => soft _ _ _ _ (z * SC) _) (Finset.sum_congr rfl fun e _ => ?_)
  rw [← blk0, ← blk1]

/-- The output block at a batch's last point. -/
theorem out8_at (h7 : t.val % 8 = 7) (r : Fin 16) (d : Fin 128) :
    (outsAt0 m (hO m) c t.val t.isLt).1 (ix4 0 0 r d) = outVal m c (bOf t) r d := by
  have h0 : ¬ t.val % 8 = 0 := by omega
  have st := state_last m c t h7
  have e8 : t.val % 8 + 1 = 8 := by omega
  by_cases h1 : cond0_1 (grid0.coords t) (lenOf (F := Ideal) c (grid0.coords t) (tbl m 0))
  · have hl := (live_at m c t).mp h1
    exact (congrFun ((o1 (outsAt0_E m (hO m) c t h0 h1 h7)).trans (out0_E_8_eq c (grid0.coords t) (ms0_0 m (hO m) t) (hs0_0 m (hO m) t) (ms0_1 m (hO m) t) (hs0_1 m (hO m) t) (ms0_2 m (hO m) t) (hs0_2 m (hO m) t) (ms0_3 m (hO m) t) (hs0_3 m (hO m) t) (ms0_4 m (hO m) t) (hs0_4 m (hO m) t) (ms0_5 m (hO m) t) (hs0_5 m (hO m) t) (ms0_6 m (hO m) t) (hs0_6 m (hO m) t) (ms0_7 m (hO m) t) (hs0_7 m (hO m) t) (ms0_8 m (hO m) t) (hs0_8 m (hO m) t) (ms0_9 m (hO m) t) (hs0_9 m (hO m) t) (ms0_10 m (hO m) t) (hs0_10 m (hO m) t) (ms0_11 m (hO m) t) (hs0_11 m (hO m) t) scM0_0 (Memref.isWhole_whole _) scM0_1 (Memref.isWhole_whole _) scM0_2 (Memref.isWhole_whole _) (fun h => h0 ((hcond0_0 t).mp h)) ((hcond0_2 t).mpr h7) (iblk m (hO m) c 0 t) (iblk m (hO m) c 1 t) (iblk m (hO m) c 2 t) (iblk m (hO m) c 3 t) (iblk m (hO m) c 4 t) (iblk m (hO m) c 5 t) (iblk m (hO m) c 6 t) (iblk m (hO m) c 7 t) (tbl m 0) (outsAt0 m (hO m) c (t.val - 1) (Nat.lt_of_le_of_lt (Nat.sub_le _ _) t.isLt)).2.2.2.2.1 (outsAt0 m (hO m) c (t.val - 1) (Nat.lt_of_le_of_lt (Nat.sub_le _ _) t.isLt)).2.2.2.2.2.1 (outsAt0 m (hO m) c (t.val - 1) (Nat.lt_of_le_of_lt (Nat.sub_le _ _) t.isLt)).2.2.2.2.2.2 h1)) _).trans
      (fin_at m c t (e8 ▸ step_at m c t hl st) r d)
  · have hl := fun h => h1 ((live_at m c t).mpr h)
    exact (congrFun ((o1 (outsAt0_F m (hO m) c t h0 h1 h7)).trans (out0_F_8_eq c (grid0.coords t) (ms0_0 m (hO m) t) (hs0_0 m (hO m) t) (ms0_1 m (hO m) t) (hs0_1 m (hO m) t) (ms0_2 m (hO m) t) (hs0_2 m (hO m) t) (ms0_3 m (hO m) t) (hs0_3 m (hO m) t) (ms0_4 m (hO m) t) (hs0_4 m (hO m) t) (ms0_5 m (hO m) t) (hs0_5 m (hO m) t) (ms0_6 m (hO m) t) (hs0_6 m (hO m) t) (ms0_7 m (hO m) t) (hs0_7 m (hO m) t) (ms0_8 m (hO m) t) (hs0_8 m (hO m) t) (ms0_9 m (hO m) t) (hs0_9 m (hO m) t) (ms0_10 m (hO m) t) (hs0_10 m (hO m) t) (ms0_11 m (hO m) t) (hs0_11 m (hO m) t) scM0_0 (Memref.isWhole_whole _) scM0_1 (Memref.isWhole_whole _) scM0_2 (Memref.isWhole_whole _) (fun h => h0 ((hcond0_0 t).mp h)) ((hcond0_2 t).mpr h7) (iblk m (hO m) c 0 t) (iblk m (hO m) c 1 t) (iblk m (hO m) c 2 t) (iblk m (hO m) c 3 t) (iblk m (hO m) c 4 t) (iblk m (hO m) c 5 t) (iblk m (hO m) c 6 t) (iblk m (hO m) c 7 t) (tbl m 0) (outsAt0 m (hO m) c (t.val - 1) (Nat.lt_of_le_of_lt (Nat.sub_le _ _) t.isLt)).2.2.2.2.1 (outsAt0 m (hO m) c (t.val - 1) (Nat.lt_of_le_of_lt (Nat.sub_le _ _) t.isLt)).2.2.2.2.2.1 (outsAt0 m (hO m) c (t.val - 1) (Nat.lt_of_le_of_lt (Nat.sub_le _ _) t.isLt)).2.2.2.2.2.2 h1)) _).trans
      (fin_at m c t (e8 ▸ st.dead hl) r d)

/-- The three quantiser blocks at a batch's last point, as the last step computes them. -/
theorem outs_at (h7 : t.val % 8 = 7) :
    (outsAt0 m (hO m) c t.val t.isLt).2.1 = k0_pay38 (F := Ideal) (iblk m (hO m) c 1 t) (iblk m (hO m) c 4 t) (iblk m (hO m) c 5 t) ∧
    (outsAt0 m (hO m) c t.val t.isLt).2.2.1 = vCodes (F := Ideal) (iblk m (hO m) c 2 t) ∧
    (outsAt0 m (hO m) c t.val t.isLt).2.2.2.1 = vScales (F := Ideal) (iblk m (hO m) c 2 t) := by
  have h0 : ¬ t.val % 8 = 0 := by omega
  by_cases h1 : cond0_1 (grid0.coords t) (lenOf (F := Ideal) c (grid0.coords t) (tbl m 0))
  · have e := outsAt0_E m (hO m) c t h0 h1 h7
    exact ⟨(o2 e).trans (out0_E_9_eq c (grid0.coords t) (ms0_0 m (hO m) t) (hs0_0 m (hO m) t) (ms0_1 m (hO m) t) (hs0_1 m (hO m) t) (ms0_2 m (hO m) t) (hs0_2 m (hO m) t) (ms0_3 m (hO m) t) (hs0_3 m (hO m) t) (ms0_4 m (hO m) t) (hs0_4 m (hO m) t) (ms0_5 m (hO m) t) (hs0_5 m (hO m) t) (ms0_6 m (hO m) t) (hs0_6 m (hO m) t) (ms0_7 m (hO m) t) (hs0_7 m (hO m) t) (ms0_8 m (hO m) t) (hs0_8 m (hO m) t) (ms0_9 m (hO m) t) (hs0_9 m (hO m) t) (ms0_10 m (hO m) t) (hs0_10 m (hO m) t) (ms0_11 m (hO m) t) (hs0_11 m (hO m) t) scM0_0 (Memref.isWhole_whole _) scM0_1 (Memref.isWhole_whole _) scM0_2 (Memref.isWhole_whole _) (fun h => h0 ((hcond0_0 t).mp h)) ((hcond0_2 t).mpr h7) (iblk m (hO m) c 0 t) (iblk m (hO m) c 1 t) (iblk m (hO m) c 2 t) (iblk m (hO m) c 3 t) (iblk m (hO m) c 4 t) (iblk m (hO m) c 5 t) (iblk m (hO m) c 6 t) (iblk m (hO m) c 7 t) (tbl m 0) (outsAt0 m (hO m) c (t.val - 1) (Nat.lt_of_le_of_lt (Nat.sub_le _ _) t.isLt)).2.2.2.2.1 (outsAt0 m (hO m) c (t.val - 1) (Nat.lt_of_le_of_lt (Nat.sub_le _ _) t.isLt)).2.2.2.2.2.1 (outsAt0 m (hO m) c (t.val - 1) (Nat.lt_of_le_of_lt (Nat.sub_le _ _) t.isLt)).2.2.2.2.2.2 h1), (o3 e).trans (out0_E_10_eq c (grid0.coords t) (ms0_0 m (hO m) t) (hs0_0 m (hO m) t) (ms0_1 m (hO m) t) (hs0_1 m (hO m) t) (ms0_2 m (hO m) t) (hs0_2 m (hO m) t) (ms0_3 m (hO m) t) (hs0_3 m (hO m) t) (ms0_4 m (hO m) t) (hs0_4 m (hO m) t) (ms0_5 m (hO m) t) (hs0_5 m (hO m) t) (ms0_6 m (hO m) t) (hs0_6 m (hO m) t) (ms0_7 m (hO m) t) (hs0_7 m (hO m) t) (ms0_8 m (hO m) t) (hs0_8 m (hO m) t) (ms0_9 m (hO m) t) (hs0_9 m (hO m) t) (ms0_10 m (hO m) t) (hs0_10 m (hO m) t) (ms0_11 m (hO m) t) (hs0_11 m (hO m) t) scM0_0 (Memref.isWhole_whole _) scM0_1 (Memref.isWhole_whole _) scM0_2 (Memref.isWhole_whole _) (fun h => h0 ((hcond0_0 t).mp h)) ((hcond0_2 t).mpr h7) (iblk m (hO m) c 0 t) (iblk m (hO m) c 1 t) (iblk m (hO m) c 2 t) (iblk m (hO m) c 3 t) (iblk m (hO m) c 4 t) (iblk m (hO m) c 5 t) (iblk m (hO m) c 6 t) (iblk m (hO m) c 7 t) (tbl m 0) (outsAt0 m (hO m) c (t.val - 1) (Nat.lt_of_le_of_lt (Nat.sub_le _ _) t.isLt)).2.2.2.2.1 (outsAt0 m (hO m) c (t.val - 1) (Nat.lt_of_le_of_lt (Nat.sub_le _ _) t.isLt)).2.2.2.2.2.1 (outsAt0 m (hO m) c (t.val - 1) (Nat.lt_of_le_of_lt (Nat.sub_le _ _) t.isLt)).2.2.2.2.2.2 h1),
      (o4 e).trans (out0_E_11_eq c (grid0.coords t) (ms0_0 m (hO m) t) (hs0_0 m (hO m) t) (ms0_1 m (hO m) t) (hs0_1 m (hO m) t) (ms0_2 m (hO m) t) (hs0_2 m (hO m) t) (ms0_3 m (hO m) t) (hs0_3 m (hO m) t) (ms0_4 m (hO m) t) (hs0_4 m (hO m) t) (ms0_5 m (hO m) t) (hs0_5 m (hO m) t) (ms0_6 m (hO m) t) (hs0_6 m (hO m) t) (ms0_7 m (hO m) t) (hs0_7 m (hO m) t) (ms0_8 m (hO m) t) (hs0_8 m (hO m) t) (ms0_9 m (hO m) t) (hs0_9 m (hO m) t) (ms0_10 m (hO m) t) (hs0_10 m (hO m) t) (ms0_11 m (hO m) t) (hs0_11 m (hO m) t) scM0_0 (Memref.isWhole_whole _) scM0_1 (Memref.isWhole_whole _) scM0_2 (Memref.isWhole_whole _) (fun h => h0 ((hcond0_0 t).mp h)) ((hcond0_2 t).mpr h7) (iblk m (hO m) c 0 t) (iblk m (hO m) c 1 t) (iblk m (hO m) c 2 t) (iblk m (hO m) c 3 t) (iblk m (hO m) c 4 t) (iblk m (hO m) c 5 t) (iblk m (hO m) c 6 t) (iblk m (hO m) c 7 t) (tbl m 0) (outsAt0 m (hO m) c (t.val - 1) (Nat.lt_of_le_of_lt (Nat.sub_le _ _) t.isLt)).2.2.2.2.1 (outsAt0 m (hO m) c (t.val - 1) (Nat.lt_of_le_of_lt (Nat.sub_le _ _) t.isLt)).2.2.2.2.2.1 (outsAt0 m (hO m) c (t.val - 1) (Nat.lt_of_le_of_lt (Nat.sub_le _ _) t.isLt)).2.2.2.2.2.2 h1)⟩
  · have e := outsAt0_F m (hO m) c t h0 h1 h7
    exact ⟨(o2 e).trans (out0_F_9_eq c (grid0.coords t) (ms0_0 m (hO m) t) (hs0_0 m (hO m) t) (ms0_1 m (hO m) t) (hs0_1 m (hO m) t) (ms0_2 m (hO m) t) (hs0_2 m (hO m) t) (ms0_3 m (hO m) t) (hs0_3 m (hO m) t) (ms0_4 m (hO m) t) (hs0_4 m (hO m) t) (ms0_5 m (hO m) t) (hs0_5 m (hO m) t) (ms0_6 m (hO m) t) (hs0_6 m (hO m) t) (ms0_7 m (hO m) t) (hs0_7 m (hO m) t) (ms0_8 m (hO m) t) (hs0_8 m (hO m) t) (ms0_9 m (hO m) t) (hs0_9 m (hO m) t) (ms0_10 m (hO m) t) (hs0_10 m (hO m) t) (ms0_11 m (hO m) t) (hs0_11 m (hO m) t) scM0_0 (Memref.isWhole_whole _) scM0_1 (Memref.isWhole_whole _) scM0_2 (Memref.isWhole_whole _) (fun h => h0 ((hcond0_0 t).mp h)) ((hcond0_2 t).mpr h7) (iblk m (hO m) c 0 t) (iblk m (hO m) c 1 t) (iblk m (hO m) c 2 t) (iblk m (hO m) c 3 t) (iblk m (hO m) c 4 t) (iblk m (hO m) c 5 t) (iblk m (hO m) c 6 t) (iblk m (hO m) c 7 t) (tbl m 0) (outsAt0 m (hO m) c (t.val - 1) (Nat.lt_of_le_of_lt (Nat.sub_le _ _) t.isLt)).2.2.2.2.1 (outsAt0 m (hO m) c (t.val - 1) (Nat.lt_of_le_of_lt (Nat.sub_le _ _) t.isLt)).2.2.2.2.2.1 (outsAt0 m (hO m) c (t.val - 1) (Nat.lt_of_le_of_lt (Nat.sub_le _ _) t.isLt)).2.2.2.2.2.2 h1), (o3 e).trans (out0_F_10_eq c (grid0.coords t) (ms0_0 m (hO m) t) (hs0_0 m (hO m) t) (ms0_1 m (hO m) t) (hs0_1 m (hO m) t) (ms0_2 m (hO m) t) (hs0_2 m (hO m) t) (ms0_3 m (hO m) t) (hs0_3 m (hO m) t) (ms0_4 m (hO m) t) (hs0_4 m (hO m) t) (ms0_5 m (hO m) t) (hs0_5 m (hO m) t) (ms0_6 m (hO m) t) (hs0_6 m (hO m) t) (ms0_7 m (hO m) t) (hs0_7 m (hO m) t) (ms0_8 m (hO m) t) (hs0_8 m (hO m) t) (ms0_9 m (hO m) t) (hs0_9 m (hO m) t) (ms0_10 m (hO m) t) (hs0_10 m (hO m) t) (ms0_11 m (hO m) t) (hs0_11 m (hO m) t) scM0_0 (Memref.isWhole_whole _) scM0_1 (Memref.isWhole_whole _) scM0_2 (Memref.isWhole_whole _) (fun h => h0 ((hcond0_0 t).mp h)) ((hcond0_2 t).mpr h7) (iblk m (hO m) c 0 t) (iblk m (hO m) c 1 t) (iblk m (hO m) c 2 t) (iblk m (hO m) c 3 t) (iblk m (hO m) c 4 t) (iblk m (hO m) c 5 t) (iblk m (hO m) c 6 t) (iblk m (hO m) c 7 t) (tbl m 0) (outsAt0 m (hO m) c (t.val - 1) (Nat.lt_of_le_of_lt (Nat.sub_le _ _) t.isLt)).2.2.2.2.1 (outsAt0 m (hO m) c (t.val - 1) (Nat.lt_of_le_of_lt (Nat.sub_le _ _) t.isLt)).2.2.2.2.2.1 (outsAt0 m (hO m) c (t.val - 1) (Nat.lt_of_le_of_lt (Nat.sub_le _ _) t.isLt)).2.2.2.2.2.2 h1),
      (o4 e).trans (out0_F_11_eq c (grid0.coords t) (ms0_0 m (hO m) t) (hs0_0 m (hO m) t) (ms0_1 m (hO m) t) (hs0_1 m (hO m) t) (ms0_2 m (hO m) t) (hs0_2 m (hO m) t) (ms0_3 m (hO m) t) (hs0_3 m (hO m) t) (ms0_4 m (hO m) t) (hs0_4 m (hO m) t) (ms0_5 m (hO m) t) (hs0_5 m (hO m) t) (ms0_6 m (hO m) t) (hs0_6 m (hO m) t) (ms0_7 m (hO m) t) (hs0_7 m (hO m) t) (ms0_8 m (hO m) t) (hs0_8 m (hO m) t) (ms0_9 m (hO m) t) (hs0_9 m (hO m) t) (ms0_10 m (hO m) t) (hs0_10 m (hO m) t) (ms0_11 m (hO m) t) (hs0_11 m (hO m) t) scM0_0 (Memref.isWhole_whole _) scM0_1 (Memref.isWhole_whole _) scM0_2 (Memref.isWhole_whole _) (fun h => h0 ((hcond0_0 t).mp h)) ((hcond0_2 t).mpr h7) (iblk m (hO m) c 0 t) (iblk m (hO m) c 1 t) (iblk m (hO m) c 2 t) (iblk m (hO m) c 3 t) (iblk m (hO m) c 4 t) (iblk m (hO m) c 5 t) (iblk m (hO m) c 6 t) (iblk m (hO m) c 7 t) (tbl m 0) (outsAt0 m (hO m) c (t.val - 1) (Nat.lt_of_le_of_lt (Nat.sub_le _ _) t.isLt)).2.2.2.2.1 (outsAt0 m (hO m) c (t.val - 1) (Nat.lt_of_le_of_lt (Nat.sub_le _ _) t.isLt)).2.2.2.2.2.1 (outsAt0 m (hO m) c (t.val - 1) (Nat.lt_of_le_of_lt (Nat.sub_le _ _) t.isLt)).2.2.2.2.2.2 h1)⟩

/-- A new key's code. -/
def kCode (b : Fin 4) (h : Fin 2) (d : Fin 128) : BitVec 8 :=
  Ideal.fptosi 8 (min (Ideal.ofBits .f32 0x42FE0000#32) (max (Ideal.ofBits .f32 0xC3000000#32)
    (Ideal.liftRound Ideal.roundHalfEven (Ideal.div (aK m c (ix4 b 0 h d)) (aSc m c (ix3 b h d)) + aZp m c (ix3 b h d)))))

/-- A new value row's scale. -/
def vScale (b : Fin 4) (h : Fin 2) : EReal := rowScale fun e => aV m c (ix4 b 0 h e)

/-- A new value's code. -/
def vCode (b : Fin 4) (h : Fin 2) (d : Fin 128) : BitVec 8 :=
  Ideal.fptosi 8 (min (Ideal.ofBits .f32 0x42FE0000#32) (max (Ideal.ofBits .f32 0xC2FE0000#32)
    (Ideal.liftRound Ideal.roundHalfEven (Ideal.div (aV m c (ix4 b 0 h d)) (vScale m c b h)))))

/-- The block of new key codes at a batch's last point. -/
theorem out9_at (h7 : t.val % 8 = 7) (h : Fin 2) (d : Fin 128) :
    (outsAt0 m (hO m) c t.val t.isLt).2.1 (ix4 0 0 h d) = kCode m c (bOf t) h d := by
  refine (congrFun (outs_at m c t h7).1 _).trans ((kcode_apply ..).trans ?_)
  unfold kCode
  rw [← blk1, ← blk4, ← blk5]

/-- The scale of the new value row in a grid point's block is the batch's. -/
theorem rowScale_at (h : Fin 2) :
    (rowScale fun e => (iblk m (hO m) c 2 t : Vec Ideal S1x1x2x128 .bf16) (ix4 0 0 h e)) = vScale m c (bOf t) h :=
  congrArg rowScale (funext fun e => blk2 m c t h e)

/-- The block of new value codes at a batch's last point. -/
theorem out10_at (h7 : t.val % 8 = 7) (h : Fin 2) (d : Fin 128) :
    (outsAt0 m (hO m) c t.val t.isLt).2.2.1 (ix4 0 0 h d) = vCode m c (bOf t) h d := by
  refine (congrFun (outs_at m c t h7).2.1 _).trans ((vcode_apply ..).trans ?_)
  unfold vCode
  rw [← blk2, ← rowScale_at]

/-- The block of new value scales at a batch's last point. -/
theorem out11_at (h7 : t.val % 8 = 7) (h : Fin 2) :
    (outsAt0 m (hO m) c t.val t.isLt).2.2.2.1 (ix3 0 0 h) = vScale m c (bOf t) h := by
  exact (congrFun (outs_at m c t h7).2.2 _).trans ((vscale_apply ..).trans (rowScale_at m c t h))

end Cert.KernelIdeal.Gen
end
-- ==== Proof.Arrays.lean ====
module

public import proofs.«01_k».proof.Proof.State

/-! What the four result arrays hold when the kernel ends. -/

@[expose] public section

set_option maxRecDepth 16384

noncomputable section

namespace Cert.KernelIdeal.Gen

open Idealize.ShloMosaic Idealize.ShloMosaic.TcCoe Idealize.ShloMosaic.Tactic
open Cert.Own Cert.Own.Softmax Cert.Own.Words

variable (m : (ℓ : Loc nD τ sig) → Buf (Elt Ideal) ℓ) (c : Dev nD)

/-- An index of a rank-4 array is its four coordinates. -/
theorem ex4 {a b c d : ℕ} (y : (⟨4, ![a, b, c, d]⟩ : Shape).Idx) :
    ∃ (p : Fin a) (q : Fin b) (r : Fin c) (s : Fin d), y = ix4 p q r s := ⟨y 0, y 1, y 2, y 3, eq_ix4 y⟩

/-- An index of a rank-3 array is its three coordinates. -/
theorem ex3 {a b c : ℕ} (y : (⟨3, ![a, b, c]⟩ : Shape).Idx) :
    ∃ (p : Fin a) (q : Fin b) (r : Fin c), y = ix3 p q r := ⟨y 0, y 1, y 2, eq_ix3 y⟩

/-- A batch's last point. -/
def tLast (b : Fin 4) : Fin grid0.N := ⟨8 * b.val + 7, by have : grid0.N = 32 := N_0; omega⟩

/-- A batch's last point belongs to the batch. -/
theorem bOf_tLast (b : Fin 4) : bOf (tLast b) = b := Fin.ext (by show (8 * b.val + 7) / 8 = b.val; omega)

/-- Where the output block of a grid point lies in the output array. -/
theorem emb8 (t : Fin grid0.N) (r : Fin 16) (d : Fin 128) :
    (((cfgM m (hO m)).win 8).blk t).view.emb (ix4 0 0 r d) = ix4 (bOf t) 0 r d := by
  have h0 := coord0 (grid0.coords t); rw [coords0] at h0
  refine funext fun (a : Fin 4) => Fin.ext ?_
  refine (Pipeline.Window.rect_emb_val _ _ _ _).trans ?_
  match a with
  | 0 => show (BitVec.ofNat 32 (grid0.coords t 0).val).toNat * 1 + 0 = t.val / 8; rw [coords0]; omega
  | 1 => rfl
  | 2 => exact (congrArg (· + _) (Nat.zero_mul _)).trans (Nat.zero_add _)
  | 3 => exact (congrArg (· + _) (Nat.zero_mul _)).trans (Nat.zero_add _)

/-- The attention output. -/
def gOut : Vec Ideal S4x1x16x128 .bf16 := fun i => outVal m c (i 0) (i 2) (i 3)

/-- At the end the output array holds the attention outputs. -/
theorem arr8 : (dats m (hO m) 0 c).arrAt 8 (cfgM m (hO m)).N = gOut m c := by
  refine (dats m (hO m) 0 c).arrAt_eq_of_emb 8 (gOut m c) (fun t hf y => ?_) (fun i => ?_)
  · have h7 := (flush0_8 (adm m (hO m)) t).mp hf
    obtain ⟨p, q, r, d, rfl⟩ := ex4 (a := 1) (b := 1) (c := 16) (d := 128) y
    obtain rfl : p = 0 := Subsingleton.elim _ _
    obtain rfl : q = 0 := Subsingleton.elim _ _
    refine Eq.trans ?_ (congrArg (gOut m c) (emb8 m t r d).symm)
    rw [after0_8]
    exact out8_at m c t h7 r d
  · obtain ⟨b, q, r, d, rfl⟩ := ex4 (a := 4) (b := 1) (c := 16) (d := 128) i
    obtain rfl : q = 0 := Subsingleton.elim _ _
    refine ⟨tLast b, (flush0_8 (adm m (hO m)) _).mpr (by show (8 * b.val + 7) % 8 = 7; omega), ?_⟩
    have e := emb8 m (tLast b) r d
    rw [bOf_tLast] at e
    rw [← e]
    exact View.emb_mem_set _ _

/-- Where the block of new key codes of a grid point lies in its array. -/
theorem emb9 (t : Fin grid0.N) (h : Fin 2) (d : Fin 128) :
    (((cfgM m (hO m)).win 9).blk t).view.emb (ix4 0 0 h d) = ix4 (bOf t) 0 h d := by
  have h0 := coord0 (grid0.coords t); rw [coords0] at h0
  refine funext fun (a : Fin 4) => Fin.ext ?_
  refine (Pipeline.Window.rect_emb_val _ _ _ _).trans ?_
  match a with
  | 0 => show (BitVec.ofNat 32 (grid0.coords t 0).val).toNat * 1 + 0 = t.val / 8; rw [coords0]; omega
  | 1 => rfl
  | 2 => exact (congrArg (· + _) (Nat.zero_mul _)).trans (Nat.zero_add _)
  | 3 => exact (congrArg (· + _) (Nat.zero_mul _)).trans (Nat.zero_add _)

/-- The new keys' codes. -/
def gK : Vec Ideal S4x1x2x128 .i8 := fun i => kCode m c (i 0) (i 2) (i 3)

/-- At the end the array of new key codes holds them. -/
theorem arr9 : (dats m (hO m) 0 c).arrAt 9 (cfgM m (hO m)).N = gK m c := by
  refine (dats m (hO m) 0 c).arrAt_eq_of_emb 9 (gK m c) (fun t hf y => ?_) (fun i => ?_)
  · have h7 := (flush0_9 (adm m (hO m)) t).mp hf
    obtain ⟨p, q, h, d, rfl⟩ := ex4 (a := 1) (b := 1) (c := 2) (d := 128) y
    obtain rfl : p = 0 := Subsingleton.elim _ _
    obtain rfl : q = 0 := Subsingleton.elim _ _
    refine Eq.trans ?_ (congrArg (gK m c) (emb9 m t h d).symm)
    rw [after0_9]
    exact out9_at m c t h7 h d
  · obtain ⟨b, q, h, d, rfl⟩ := ex4 (a := 4) (b := 1) (c := 2) (d := 128) i
    obtain rfl : q = 0 := Subsingleton.elim _ _
    refine ⟨tLast b, (flush0_9 (adm m (hO m)) _).mpr (by show (8 * b.val + 7) % 8 = 7; omega), ?_⟩
    have e := emb9 m (tLast b) h d
    rw [bOf_tLast] at e
    rw [← e]
    exact View.emb_mem_set _ _

/-- Where the block of new value codes of a grid point lies in its array. -/
theorem emb10 (t : Fin grid0.N) (h : Fin 2) (d : Fin 128) :
    (((cfgM m (hO m)).win 10).blk t).view.emb (ix4 0 0 h d) = ix4 (bOf t) 0 h d := by
  have h0 := coord0 (grid0.coords t); rw [coords0] at h0
  refine funext fun (a : Fin 4) => Fin.ext ?_
  refine (Pipeline.Window.rect_emb_val _ _ _ _).trans ?_
  match a with
  | 0 => show (BitVec.ofNat 32 (grid0.coords t 0).val).toNat * 1 + 0 = t.val / 8; rw [coords0]; omega
  | 1 => rfl
  | 2 => exact (congrArg (· + _) (Nat.zero_mul _)).trans (Nat.zero_add _)
  | 3 => exact (congrArg (· + _) (Nat.zero_mul _)).trans (Nat.zero_add _)

/-- The new values' codes. -/
def gV : Vec Ideal S4x1x2x128 .i8 := fun i => vCode m c (i 0) (i 2) (i 3)

/-- At the end the array of new value codes holds them. -/
theorem arr10 : (dats m (hO m) 0 c).arrAt 10 (cfgM m (hO m)).N = gV m c := by
  refine (dats m (hO m) 0 c).arrAt_eq_of_emb 10 (gV m c) (fun t hf y => ?_) (fun i => ?_)
  · have h7 := (flush0_10 (adm m (hO m)) t).mp hf
    obtain ⟨p, q, h, d, rfl⟩ := ex4 (a := 1) (b := 1) (c := 2) (d := 128) y
    obtain rfl : p = 0 := Subsingleton.elim _ _
    obtain rfl : q = 0 := Subsingleton.elim _ _
    refine Eq.trans ?_ (congrArg (gV m c) (emb10 m t h d).symm)
    rw [after0_10]
    exact out10_at m c t h7 h d
  · obtain ⟨b, q, h, d, rfl⟩ := ex4 (a := 4) (b := 1) (c := 2) (d := 128) i
    obtain rfl : q = 0 := Subsingleton.elim _ _
    refine ⟨tLast b, (flush0_10 (adm m (hO m)) _).mpr (by show (8 * b.val + 7) % 8 = 7; omega), ?_⟩
    have e := emb10 m (tLast b) h d
    rw [bOf_tLast] at e
    rw [← e]
    exact View.emb_mem_set _ _

/-- Where the block of new value scales of a grid point lies in its array. -/
theorem emb11 (t : Fin grid0.N) (h : Fin 2) :
    (((cfgM m (hO m)).win 11).blk t).view.emb (ix3 0 0 h) = ix3 (bOf t) 0 h := by
  have h0 := coord0 (grid0.coords t); rw [coords0] at h0
  refine funext fun (a : Fin 3) => Fin.ext ?_
  refine (Pipeline.Window.rect_emb_val _ _ _ _).trans ?_
  match a with
  | 0 => show (BitVec.ofNat 32 (grid0.coords t 0).val).toNat * 1 + 0 = t.val / 8; rw [coords0]; omega
  | 1 => rfl
  | 2 => exact (congrArg (· + _) (Nat.zero_mul _)).trans (Nat.zero_add _)

/-- The new values' scales. -/
def gS : Vec Ideal S4x1x2 .f32 := fun i => vScale m c (i 0) (i 2)

/-- At the end the array of new value scales holds them. -/
theorem arr11 : (dats m (hO m) 0 c).arrAt 11 (cfgM m (hO m)).N = gS m c := by
  refine (dats m (hO m) 0 c).arrAt_eq_of_emb 11 (gS m c) (fun t hf y => ?_) (fun i => ?_)
  · have h7 := (flush0_11 (adm m (hO m)) t).mp hf
    obtain ⟨p, q, h, rfl⟩ := ex3 (a := 1) (b := 1) (c := 2) y
    obtain rfl : p = 0 := Subsingleton.elim _ _
    obtain rfl : q = 0 := Subsingleton.elim _ _
    refine Eq.trans ?_ (congrArg (gS m c) (emb11 m t h).symm)
    rw [after0_11]
    exact out11_at m c t h7 h
  · obtain ⟨b, q, h, rfl⟩ := ex3 (a := 4) (b := 1) (c := 2) i
    obtain rfl : q = 0 := Subsingleton.elim _ _
    refine ⟨tLast b, (flush0_11 (adm m (hO m)) _).mpr (by show (8 * b.val + 7) % 8 = 7; omega), ?_⟩
    have e := emb11 m (tLast b) h
    rw [bOf_tLast] at e
    rw [← e]
    exact View.emb_mem_set _ _

end Cert.KernelIdeal.Gen
end
-- ==== Proof.Ref.lean ====
module

public import proofs.«01_k».proof.Proof.Block
public import proofs.«01_k».proof.Proof.Gen.ReferenceIdeal.Read

/-! The reference's four results at an index, in the terms the kernel's results are stated in. -/

@[expose] public section

set_option maxRecDepth 16384

noncomputable section

namespace Cert.ReferenceIdeal.Read

open Idealize.ShloMosaic Idealize.ShloMosaic.TcCoe Idealize.ShloMosaic.Tactic
open Cert.Own Cert.Own.Softmax Cert.Own.Words
open Cert.KernelIdeal.Gen (hd SC num soft amax rowScale)
open Cert.KernelIdeal.Gen (upto upto_eight)

variable (x0 : Vec Ideal S4x1x16x128 .bf16) (x1 x2 : Vec Ideal S4x1x2x128 .bf16) (x3 : Vec Ideal S4x32768x2x128 .i8)
  (x4 x5 : Vec Ideal S4x2x128 .f32) (x6 : Vec Ideal S4x32768x2x128 .i8) (x7 : Vec Ideal S4x32768x2 .f32) (x8 : Vec Ideal S4 .i32)
  (b : Fin 4) (k : Fin 2) (g : Fin 8)

/-- A code read through a 32-bit integer is the number the code stands for. -/
theorem num_wide (w : BitVec 8) : FloatOps.sitofp (F := Ideal) FTy.f32 (BitVec.signExtend 32 w) = num w := by
  show (((BitVec.signExtend 32 w).toInt : ℝ) : EReal) = ((w.toInt : ℝ) : EReal)
  rw [BitVec.toInt_signExtend_of_le (by decide)]

/-- The query row of head `k` and place `g` in its group. -/
def row (k : Fin 2) (g : Fin 8) : Fin 16 := ⟨k.val * 8 + g.val, by omega⟩

/-- The score with a cached key. -/
def sc (t : Fin 32768) : EReal :=
  (∑ e : Fin 128, x0 (ix4 b 0 (row k g) e) * ((num (x3 (ix4 b t k e)) - x5 (ix3 b k e)) * x4 (ix3 b k e))) * SC

/-- The score with the new key. -/
def scn : EReal := (∑ e : Fin 128, x0 (ix4 b 0 (row k g) e) * x1 (ix4 b 0 k e)) * SC

/-- The reference's scores with the cached keys. -/
theorem v39_at (t : Fin 32768) : val_main_v39 (F := Ideal) x0 x3 x4 x5 (ix5 b k g 0 t) = sc x0 x3 x4 x5 b k g t := by
  pointwise [val_main_v39, val_main_v38, val_main_v37, val_main_v36, val_main_cst_7, val_main_v35, val_main_v34, val_main_v33, val_main_v32, val_main_v31, val_main_v30, val_main_v29, val_main_v28, val_main_v27, val_main_v26, val_main_v25, val_main_v24]
  refine congrArg (· * SC) (Finset.sum_congr rfl fun e _ => ?_)
  rw [num_wide]
  exact mul_comm _ _

/-- The reference's score with the new key; the causal mask of one position hides nothing. -/
theorem v57_at : val_main_v57 (F := Ideal) x0 x1 (ix5 b k g 0 0) = scn x0 x1 b k g := by
  pointwise [val_main_v57, val_main_v43, val_main_v42, val_main_v41, val_main_v40, val_main_cst_8, val_main_v24, val_main_call6_v1, val_main_call6_v2, val_main_call6_v0, val_main_v56, val_main_v55, val_main_v54, val_main_v53, val_main_v52, val_main_cst_10]
  rw [show IntOp.cmpi CmpIPredicate.sle 0#32 0#32 = 1#1 from rfl]
  refine congrArg (· * SC) (Finset.sum_congr rfl fun e _ => ?_)
  exact mul_comm _ _

/-- The reference's masked scores: minus infinity at the positions past the length. -/
theorem v51_at (t : Fin 32768) : val_main_v51 (F := Ideal) x0 x3 x4 x5 x8 (ix5 b k g 0 t)
    = if t ∈ upto 8 (x8 (ix1 b)) then sc x0 x3 x4 x5 b k g t else ⊥ := by
  have e : val_main_v51 (F := Ideal) x0 x3 x4 x5 x8 (ix5 b k g 0 t)
      = Scalar.select (IntOp.cmpi CmpIPredicate.slt (BitVec.ofNat 32 t.val) (x8 (ix1 b)))
        (val_main_v39 (F := Ideal) x0 x3 x4 x5 (ix5 b k g 0 t)) (Ideal.ofBits .f32 0xFF800000#32) := by
    pointwise [val_main_v51, val_main_call5_v0, val_main_call5_v2, val_main_call5_v1, val_main_v50, val_main_v49, val_main_v48, val_main_v47, val_main_v46, val_main_v45, val_main_v44, val_main_cst_9]
    rfl
  rw [e, v39_at, ofBits_ninf, upto_eight]
  have ht : (BitVec.ofNat 32 t.val).toInt = (t.val : ℤ) := by
    have hlt := t.isLt
    rw [BitVec.toInt_eq_toNat_cond, BitVec.toNat_ofNat, Nat.mod_eq_of_lt (by omega), if_pos (by omega)]
  simp only [Finset.mem_filter, Finset.mem_univ, true_and]
  unfold Scalar.select
  by_cases h : (t.val : ℤ) < (x8 (ix1 b)).toInt
  · rw [if_pos h]
    have : IntOp.cmpi CmpIPredicate.slt (BitVec.ofNat 32 t.val) (x8 (ix1 b)) = 1#1 := by
      unfold IntOp.cmpi
      simp only [BitVec.slt_eq_decide, ht, h, decide_true]; rfl
    rw [this]; rfl
  · rw [if_neg h]
    have : IntOp.cmpi CmpIPredicate.slt (BitVec.ofNat 32 t.val) (x8 (ix1 b)) = 0#1 := by
      unfold IntOp.cmpi
      simp only [BitVec.slt_eq_decide, ht, h, decide_false]; rfl
    rw [this]; rfl

/-- A supremum of values masked to minus infinity off a set is the set's. -/
theorem sup_masked (S : Finset (Fin 32768)) (s f : Fin 32768 → EReal) (h : ∀ t, f t = if t ∈ S then s t else ⊥) :
    Finset.univ.sup f = S.sup s := by
  refine le_antisymm (Finset.sup_le fun t _ => ?_) (Finset.sup_le fun t ht => ?_)
  · rw [h]; split
    · exact Finset.le_sup ‹_›
    · exact bot_le
  · exact le_trans (by rw [h, if_pos ht]) (Finset.le_sup (Finset.mem_univ t))

/-- Masked weights sum as the set's. -/
theorem sum_masked (S : Finset (Fin 32768)) (s : Fin 32768 → EReal) (mx : EReal) (f : Fin 32768 → EReal → EReal)
    (h0 : ∀ t, f t 0 = 0) :
    (∑ t, f t (E (if t ∈ S then s t else ⊥) mx)) = ∑ t ∈ S, f t (E (s t) mx) := by
  rw [← Finset.sum_filter_add_sum_filter_not Finset.univ (· ∈ S)]
  rw [Finset.sum_eq_zero (s := Finset.univ.filter fun t => ¬ t ∈ S) fun t ht => by
    rw [if_neg (Finset.mem_filter.1 ht).2, E_bot, h0], add_zero]
  refine Finset.sum_congr (by ext t; simp) fun t ht => by rw [if_pos ht]

/-- The reference's largest masked score is the largest live one. -/
theorem v58_at : val_main_v58 (F := Ideal) x0 x3 x4 x5 x8 (ix4 b k g 0) = (upto 8 (x8 (ix1 b))).sup (sc x0 x3 x4 x5 b k g) := by
  have e : val_main_v58 (F := Ideal) x0 x3 x4 x5 x8 (ix4 b k g 0)
      = Finset.univ.fold max (Ideal.ofBits .f32 0xFF800000#32) fun t => val_main_v51 (F := Ideal) x0 x3 x4 x5 x8 (ix5 b k g 0 t) := by
    pointwise [val_main_v58, val_main_cst_11]
  rw [e, ofBits_ninf, fold_max]
  exact sup_masked _ _ _ fun t => v51_at x0 x3 x4 x5 x8 b k g t

/-- The reference's largest new score is the one there is. -/
theorem v60_at : val_main_v60 (F := Ideal) x0 x1 (ix4 b k g 0) = scn x0 x1 b k g := by
  have e : val_main_v60 (F := Ideal) x0 x1 (ix4 b k g 0)
      = Finset.univ.fold max (Ideal.ofBits .f32 0xFF800000#32) fun t : Fin 1 => val_main_v57 (F := Ideal) x0 x1 (ix5 b k g 0 t) := by
    pointwise [val_main_v60, val_main_cst_12]
  rw [e, ofBits_ninf, fold_max, Finset.univ_unique, Finset.sup_singleton]
  exact v57_at x0 x1 b k g

/-- The reference's maximum. -/
theorem v62_at : val_main_v62 (F := Ideal) x0 x1 x3 x4 x5 x8 (ix5 b k g 0 0)
    = (upto 8 (x8 (ix1 b))).sup (sc x0 x3 x4 x5 b k g) ⊔ scn x0 x1 b k g := by
  have e : val_main_v62 (F := Ideal) x0 x1 x3 x4 x5 x8 (ix5 b k g 0 0)
      = max (val_main_v58 (F := Ideal) x0 x3 x4 x5 x8 (ix4 b k g 0)) (val_main_v60 (F := Ideal) x0 x1 (ix4 b k g 0)) := by
    refine (val_main_v62_apply (F := Ideal) x0 x1 x3 x4 x5 x8 _).trans (congrArg₂ max
      ((val_main_v59_apply (F := Ideal) x0 x3 x4 x5 x8 _).trans (congrArg (val_main_v58 (F := Ideal) x0 x3 x4 x5 x8) ?_))
      ((val_main_v61_apply (F := Ideal) x0 x1 _).trans (congrArg (val_main_v60 (F := Ideal) x0 x1) ?_)))
    · exact funext fun (a : Fin 4) => match a with | 0 => rfl | 1 => rfl | 2 => rfl | 3 => rfl
    · exact funext fun (a : Fin 4) => match a with | 0 => rfl | 1 => rfl | 2 => rfl | 3 => rfl
  rw [e, v58_at, v60_at]

/-- The reciprocal of the weights' sum. -/
def inv : EReal := Ideal.div 1 (∑ t ∈ upto 8 (x8 (ix1 b)), E (sc x0 x3 x4 x5 b k g t) ((upto 8 (x8 (ix1 b))).sup (sc x0 x3 x4 x5 b k g) ⊔ scn x0 x1 b k g)
  + E (scn x0 x1 b k g) ((upto 8 (x8 (ix1 b))).sup (sc x0 x3 x4 x5 b k g) ⊔ scn x0 x1 b k g))

/-- The reference's reciprocal of the weights' sum. -/
theorem v74_at : val_main_v74 (F := Ideal) x0 x1 x3 x4 x5 x8 (ix5 b k g 0 0) = inv x0 x1 x3 x4 x5 x8 b k g := by
  pointwise [val_main_v74, val_main_v73, val_main_cst_15, val_main_v72, val_main_v71, val_main_v70, val_main_v69, val_main_v68,  val_main_v65, val_main_v64, val_main_v63, val_main_cst_13, val_main_cst_14, val_main_v67, val_main_v66]
  rw [v62_at]
  refine congrArg (Ideal.div 1) (congrArg₂ (· + ·) ?_ ?_)
  · refine Eq.trans (Finset.sum_congr rfl fun t _ => ?_) (sum_masked _ _ _ (fun _ x => x) fun _ => rfl)
    rw [v51_at]; rfl
  · rw [Fin.sum_univ_one, v57_at, v62_at]; rfl

/-- The reference's weight of a cached value, its scale included. -/
theorem v81_at (t : Fin 32768) : val_main_v81 (F := Ideal) x0 x1 x3 x4 x5 x7 x8 (ix5 b k g 0 t)
    = E (if t ∈ upto 8 (x8 (ix1 b)) then sc x0 x3 x4 x5 b k g t else ⊥) ((upto 8 (x8 (ix1 b))).sup (sc x0 x3 x4 x5 b k g) ⊔ scn x0 x1 b k g)
      * inv x0 x1 x3 x4 x5 x8 b k g * x7 (ix3 b t k) := by
  pointwise [val_main_v81, val_main_v80, val_main_v79, val_main_v78, val_main_v77, val_main_v76, val_main_v75, val_main_v65, val_main_v64, val_main_v63]
  rw [v51_at, v62_at, v74_at]; rfl

/-- The reference's exponential at the new position. -/
theorem v67_at : val_main_v67 (F := Ideal) x0 x1 x3 x4 x5 x8 (ix5 b k g 0 0)
    = E (scn x0 x1 b k g) ((upto 8 (x8 (ix1 b))).sup (sc x0 x3 x4 x5 b k g) ⊔ scn x0 x1 b k g) := by
  pointwise [val_main_v67, val_main_v66]
  rw [v57_at, v62_at]; rfl

/-- The attention output at an index. -/
theorem v93_at (r : Fin 16) (d : Fin 128) : val_main_v93 (F := Ideal) x0 x1 x2 x3 x4 x5 x6 x7 x8 (ix4 b 0 r d)
    = soft (fun t => (∑ e : Fin 128, x0 (ix4 b 0 r e) * ((num (x3 (ix4 b t (hd r) e)) - x5 (ix3 b (hd r) e)) * x4 (ix3 b (hd r) e))) * SC)
      (fun t => x7 (ix3 b t (hd r))) (fun t => num (x6 (ix4 b t (hd r) d))) (upto 8 (x8 (ix1 b)))
      ((∑ e : Fin 128, x0 (ix4 b 0 r e) * x1 (ix4 b 0 (hd r) e)) * SC) (x2 (ix4 b 0 (hd r) d)) := by
  have hr : row (hd r) ⟨r.val % 8, by omega⟩ = r := Fin.ext (by show r.val / 8 * 8 + r.val % 8 = r.val; omega)
  have e1 : (fun t => (∑ e : Fin 128, x0 (ix4 b 0 r e) * ((num (x3 (ix4 b t (hd r) e)) - x5 (ix3 b (hd r) e)) * x4 (ix3 b (hd r) e))) * SC)
      = sc x0 x3 x4 x5 b (hd r) ⟨r.val % 8, by omega⟩ := by unfold sc; rw [hr]
  have e2 : (∑ e : Fin 128, x0 (ix4 b 0 r e) * x1 (ix4 b 0 (hd r) e)) * SC = scn x0 x1 b (hd r) ⟨r.val % 8, by omega⟩ := by
    unfold scn; rw [hr]
  rw [e1, e2]
  show _ = ∑ t ∈ upto 8 (x8 (ix1 b)), E (sc x0 x3 x4 x5 b (hd r) ⟨r.val % 8, by omega⟩ t) ((upto 8 (x8 (ix1 b))).sup (sc x0 x3 x4 x5 b (hd r) ⟨r.val % 8, by omega⟩) ⊔ scn x0 x1 b (hd r) ⟨r.val % 8, by omega⟩)
      * inv x0 x1 x3 x4 x5 x8 b (hd r) ⟨r.val % 8, by omega⟩ * x7 (ix3 b t (hd r)) * num (x6 (ix4 b t (hd r) d))
    + E (scn x0 x1 b (hd r) ⟨r.val % 8, by omega⟩) ((upto 8 (x8 (ix1 b))).sup (sc x0 x3 x4 x5 b (hd r) ⟨r.val % 8, by omega⟩) ⊔ scn x0 x1 b (hd r) ⟨r.val % 8, by omega⟩)
      * inv x0 x1 x3 x4 x5 x8 b (hd r) ⟨r.val % 8, by omega⟩ * x2 (ix4 b 0 (hd r) d)
  pointwise [val_main_v93, val_main_v92, val_main_v91, val_main_v90, val_main_v89, val_main_v88, val_main_v87, val_main_v86, val_main_v85, val_main_v84, val_main_v83, val_main_v82]
  refine congrArg₂ (· + ·) ?_ ?_
  · refine Eq.trans (Finset.sum_congr rfl fun t _ => ?_) (sum_masked _ _ _ (fun t x => x * inv x0 x1 x3 x4 x5 x8 b (hd r) ⟨r.val % 8, by omega⟩
      * x7 (ix3 b t (hd r)) * num (x6 (ix4 b t (hd r) d))) fun t => by rw [zero_mul, zero_mul, zero_mul])
    rw [num_wide, v81_at]
    exact mul_comm _ _
  · rw [Fin.sum_univ_one, v67_at, v74_at]
    exact mul_comm _ _

/-- The new keys' codes at an index. -/
theorem v8_at (h : Fin 2) (d : Fin 128) : val_main_v8 (F := Ideal) x1 x4 x5 (ix4 b 0 h d)
    = Ideal.fptosi 8 (min (Ideal.ofBits .f32 0x42FE0000#32) (max (Ideal.ofBits .f32 0xC3000000#32)
      (Ideal.liftRound Ideal.roundHalfEven (Ideal.div (x1 (ix4 b 0 h d)) (x4 (ix3 b h d)) + x5 (ix3 b h d))))) := by
  pointwise [val_main_v8, val_main_v7, val_main_v6, val_main_call1_v0, val_main_call1_v1, val_main_call1_v2, val_main_call1_v3, val_main_call1_v4, val_main_cst, val_main_cst_0, val_main_v5, val_main_v4, val_main_v3, val_main_v2, val_main_v1, val_main_v0]
  exact (code_k _).symm

/-- The new values' scales at an index. -/
theorem v16_at (h : Fin 2) : val_main_v16 (F := Ideal) x2 (ix3 b 0 h) = rowScale fun e => x2 (ix4 b 0 h e) := by
  pointwise [val_main_v16, val_main_call2_v0, val_main_call2_v1, val_main_cst_1, val_main_cst_2, val_main_cst_3, val_main_cst_4, val_main_v15, val_main_v14, val_main_v13, val_main_v12, val_main_v11, val_main_v10, val_main_v9]
  rw [ofBits_ninf, fold_max]
  have one : id (constant (F := Ideal) S_ FTy.f32 1065353216#32) ix0 = 1 := Ideal.ofBits_one_f32
  rw [one]; rfl

/-- The new values' codes at an index. -/
theorem v23_at (h : Fin 2) (d : Fin 128) : val_main_v23 (F := Ideal) x2 (ix4 b 0 h d)
    = Ideal.fptosi 8 (min (Ideal.ofBits .f32 0x42FE0000#32) (max (Ideal.ofBits .f32 0xC2FE0000#32)
      (Ideal.liftRound Ideal.roundHalfEven (Ideal.div (x2 (ix4 b 0 h d)) (rowScale fun e => x2 (ix4 b 0 h e)))))) := by
  pointwise [val_main_v23, val_main_v22, val_main_v21, val_main_call4_v0, val_main_call4_v1, val_main_call4_v2, val_main_call4_v3, val_main_call4_v4, val_main_cst_5, val_main_cst_6, val_main_v20, val_main_v19, val_main_v18, val_main_v17]
  rw [v16_at]
  exact (code_v _).symm

end Cert.ReferenceIdeal.Read
end
-- ==== Proof.Results.lean ====
module

public import proofs.«01_k».proof.Proof.Arrays
public import proofs.«01_k».proof.Proof.Ref

/-! What the reference computes from the kernel's arguments is what the kernel's four result arrays hold. -/

@[expose] public section

set_option maxRecDepth 16384

noncomputable section

namespace Cert.KernelIdeal.Gen

open Idealize.ShloMosaic Idealize.ShloMosaic.TcCoe Idealize.ShloMosaic.Tactic
open Cert.ReferenceIdeal.Read

variable (m : (ℓ : Loc nD τ sig) → Buf (Elt Ideal) ℓ) (c : Dev nD)

/-- The attention outputs agree. -/
theorem out_agree : val_main_v93 (F := Ideal) (aX m c) (aK m c) (aV m c) (aCk m c) (aSc m c) (aZp m c) (aCv m c) (aVs m c) (aLen m c)
    = gOut m c := by
  funext i
  obtain ⟨b, q, r, d, rfl⟩ := ex4 (a := 4) (b := 1) (c := 16) (d := 128) i
  obtain rfl : q = 0 := Subsingleton.elim _ _
  exact v93_at _ _ _ _ _ _ _ _ _ b r d

/-- The new keys' codes agree. -/
theorem k_agree : val_main_v8 (F := Ideal) (aK m c) (aSc m c) (aZp m c) = gK m c := by
  funext i
  obtain ⟨b, q, h, d, rfl⟩ := ex4 (a := 4) (b := 1) (c := 2) (d := 128) i
  obtain rfl : q = 0 := Subsingleton.elim _ _
  exact v8_at _ _ _ b h d

/-- The new values' codes agree. -/
theorem v_agree : val_main_v23 (F := Ideal) (aV m c) = gV m c := by
  funext i
  obtain ⟨b, q, h, d, rfl⟩ := ex4 (a := 4) (b := 1) (c := 2) (d := 128) i
  obtain rfl : q = 0 := Subsingleton.elim _ _
  exact v23_at _ b h d

/-- The new values' scales agree. -/
theorem s_agree : val_main_v16 (F := Ideal) (aV m c) = gS m c := by
  funext i
  obtain ⟨b, q, h, rfl⟩ := ex3 (a := 4) (b := 1) (c := 2) i
  obtain rfl : q = 0 := Subsingleton.elim _ _
  exact v16_at _ b h

end Cert.KernelIdeal.Gen
end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Ok
public import proofs.«01_k».proof.Proof.OkIdeal
public import proofs.«01_k».proof.Proof.Results
public import Idealize.ShloMosaic.Lib.Claim
public import Idealize.ShloMosaic.Lib.Quiescent

/-! The certificate's claims, each proved: the three programs' frames, the idealization's record, and the equality of the
    kernel's four results with the reference's over the extended reals. -/

@[expose] public section

set_option maxRecDepth 16384

noncomputable section

namespace Cert.Proof

open Idealize.ShloMosaic Idealize.ShloMosaic.TcCoe Idealize.SL.Sem

/-- The kernel as printed runs to the end, faults nowhere and leaves its arguments, whatever the memory holds. -/
theorem frame_kernel : Cert.quiescent_Kernel (hKernel := Cert.Kernel.Gen.facts) :=
  fun m ρ _ => Cert.Kernel.Gen.frame m ρ (Cert.Kernel.Gen.ok_all _)

/-- The same of the kernel read over the extended reals. -/
theorem frame_ideal : Cert.quiescent_KernelIdeal (hKernelIdeal := Cert.KernelIdeal.Gen.facts) :=
  fun m ρ _ => Cert.KernelIdeal.Gen.frame m ρ (Cert.KernelIdeal.Gen.ok_all _)

/-- The same of the reference. -/
theorem frame_reference : Cert.quiescent_ReferenceIdeal (hReferenceIdeal := Cert.ReferenceIdeal.Gen.facts) :=
  fun m ρ _ => (θ_run Cert.ReferenceIdeal.defs _ _).mono
    (fun r h => ⟨fun c => (h c).2.2.2.2, sem_eq_zero_of_no_sems rfl _⟩) (Cert.ReferenceIdeal.Value.run (F := Ideal) m ρ)

open Cert.KernelIdeal.Gen in
/-- From memories that agree on the arguments, the kernel's four results are the reference's, element by element. -/
theorem algebraic : Cert.algebraic_KernelIdeal_ReferenceIdeal (hKernelIdeal := Cert.KernelIdeal.Gen.facts)
    (hReferenceIdeal := Cert.ReferenceIdeal.Gen.facts) := by
  intro m ρ m' ρ' _ agree
  refine ⟨fun c => gOut m c, fun c => gK m c, fun c => gV m c, fun c => gS m c, ?_, ?_⟩
  · exact (θ_run Cert.KernelIdeal.defs _ _).mono
      (fun r h c => ⟨(h.2.out_eq c 8).trans (arr8 m c), (h.2.out_eq c 9).trans (arr9 m c),
        (h.2.out_eq c 10).trans (arr10 m c), (h.2.out_eq c 11).trans (arr11 m c), h.1 c⟩)
      (θ_run_and (unchanged m ρ (hO m)) (run_main m ρ (hO m)))
  · refine (θ_run Cert.ReferenceIdeal.defs _ _).mono (fun r h c => ?_) (Cert.ReferenceIdeal.Value.run (F := Ideal) m' ρ')
    obtain ⟨e0, e1, e2, e3, args⟩ := h c
    obtain ⟨a0, a1, a2, a3, a4, a5, a6, a7, a8⟩ := agree c
    refine ⟨e0.trans ?_, e1.trans ?_, e2.trans ?_, e3.trans ?_, args⟩
    · refine (Cert.ReferenceIdeal.Read.val_main_v93_eq m' c).trans ?_
      rw [a0, a1, a2, a3, a4, a5, a6, a7, a8]
      exact out_agree m c
    · refine (Cert.ReferenceIdeal.Read.val_main_v8_eq _ _ _).trans ?_
      rw [a1, a4, a5]
      exact k_agree m c
    · refine (Cert.ReferenceIdeal.Read.val_main_v23_eq _).trans ?_
      rw [a2]
      exact v_agree m c
    · refine (Cert.ReferenceIdeal.Read.val_main_v16_eq _).trans ?_
      rw [a2]
      exact s_agree m c

/-- Everything the certificate claims. -/
theorem claim : Cert.Claim :=
  ⟨Cert.Kernel.Gen.facts, Cert.KernelIdeal.Gen.facts, Cert.ReferenceIdeal.Gen.facts,
    frame_kernel, frame_ideal, frame_reference, trivial, algebraic⟩

end Cert.Proof

end
